-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S8x8192x128 : Shape := ⟨3, ![8, 8192, 128]⟩
abbrev S8x32x1024 : Shape := ⟨3, ![8, 32, 1024]⟩
abbrev S8x1024x32 : Shape := ⟨3, ![8, 1024, 32]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S8x32x1024 : S_.BroadcastsInDim S8x32x1024 (![] : Fin 0 → Fin S8x32x1024.rank)
  reducesTo_S8x32x1024_S_d0_1_2 : S8x32x1024.ReducesTo [0, 1, 2] S_

variable [Facts]

def fn {F : FTy → Type} [FloatOps F] (main_arg0 : FVec F S8x8192x128 .f32) (main_arg1 : FVec F S8x32x1024 .f32) (main_arg2 : FVec F S8x1024x32 .f32) (main_arg3 : FVec F S8x1024x32 .f32) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S8x32x1024 .f32 := Host.absf main_arg1
  let main_cst_0 : FVec F S_ .f32 := constant S_ .f32 0x7F800000#32
  let main_v5 : FVec F S8x32x1024 .f32 := broadcastInDim S8x32x1024 ![] bcast_S_S8x32x1024 main_cst_0
  let main_v6 : IVec S8x32x1024 1 := cmpf .olt main_v4 main_v5
  let main_c_1 : IVec S_ 1 := constantI S_ 1 1#1
  let main_v7 : IVec S_ 1 := (fun x v => Host.reduce IntOp.andi x v reducesTo_S8x32x1024_S_d0_1_2 h_S_) main_v6 main_c_1
  let main_v8 : IVec S_ 1 := andi main_v3 main_v7
  main_v8
-- ==== Kernel.lean ====
abbrev S8x8192x128 : Shape := ⟨3, ![8, 8192, 128]⟩
abbrev S8x32x1024 : Shape := ⟨3, ![8, 32, 1024]⟩
abbrev S8x1024x32 : Shape := ⟨3, ![8, 1024, 32]⟩
abbrev S8x16x512x128 : Shape := ⟨4, ![8, 16, 512, 128]⟩
abbrev S4x32x1024 : Shape := ⟨3, ![4, 32, 1024]⟩
abbrev S4x32x64x16 : Shape := ⟨4, ![4, 32, 64, 16]⟩
abbrev S16x64x4x32 : Shape := ⟨4, ![16, 64, 4, 32]⟩
abbrev S16x64x128 : Shape := ⟨3, ![16, 64, 128]⟩
abbrev S4x1024x32 : Shape := ⟨3, ![4, 1024, 32]⟩
abbrev S4x64x16x32 : Shape := ⟨4, ![4, 64, 16, 32]⟩
abbrev S16x4x32x64 : Shape := ⟨4, ![16, 4, 32, 64]⟩
abbrev S16x128x64 : Shape := ⟨3, ![16, 128, 64]⟩
abbrev S4x8x8x32 : Shape := ⟨4, ![4, 8, 8, 32]⟩
abbrev S1x1 : Shape := ⟨2, ![1, 1]⟩
abbrev S8x16x128x128 : Shape := ⟨4, ![8, 16, 128, 128]⟩
abbrev S1x8x8x32 : Shape := ⟨4, ![1, 8, 8, 32]⟩
abbrev S8x1x1024 : Shape := ⟨3, ![8, 1, 1024]⟩
abbrev S1x1024x32 : Shape := ⟨3, ![1, 1024, 32]⟩
abbrev S1024x32 : Shape := ⟨2, ![1024, 32]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1024x128 : Shape := ⟨2, ![1024, 128]⟩
abbrev S8x1x128x128 : Shape := ⟨4, ![8, 1, 128, 128]⟩
abbrev S8x128x128 : Shape := ⟨3, ![8, 128, 128]⟩
abbrev S1024x64 : Shape := ⟨2, ![1024, 64]⟩
abbrev S1x64x128 : Shape := ⟨3, ![1, 64, 128]⟩
abbrev S64x128 : Shape := ⟨2, ![64, 128]⟩
abbrev S8x32x4x128 : Shape := ⟨4, ![8, 32, 4, 128]⟩
abbrev S8x32x1x32 : Shape := ⟨4, ![8, 32, 1, 32]⟩
abbrev S8x32x32 : Shape := ⟨3, ![8, 32, 32]⟩
abbrev S256x32 : Shape := ⟨2, ![256, 32]⟩
abbrev S256 : Shape := ⟨1, ![256]⟩
abbrev S256x1 : Shape := ⟨2, ![256, 1]⟩
abbrev S32x1024 : Shape := ⟨2, ![32, 1024]⟩
abbrev S256x1024 : Shape := ⟨2, ![256, 1024]⟩
abbrev S8x32 : Shape := ⟨2, ![8, 32]⟩
abbrev S1x1x8x32 : Shape := ⟨4, ![1, 1, 8, 32]⟩
abbrev S1x256x32 : Shape := ⟨3, ![1, 256, 32]⟩
abbrev S1 : Shape := ⟨1, ![1]⟩
abbrev S1x1x1 : Shape := ⟨3, ![1, 1, 1]⟩
abbrev S256x96 : Shape := ⟨2, ![256, 96]⟩
abbrev S256x128 : Shape := ⟨2, ![256, 128]⟩
abbrev S8x32x1x128 : Shape := ⟨4, ![8, 32, 1, 128]⟩
abbrev S256x64 : Shape := ⟨2, ![256, 64]⟩
abbrev S1x128x64 : Shape := ⟨3, ![1, 128, 64]⟩
abbrev S128x64 : Shape := ⟨2, ![128, 64]⟩
abbrev S8x8x4x32 : Shape := ⟨4, ![8, 8, 4, 32]⟩
abbrev S8x8x128 : Shape := ⟨3, ![8, 8, 128]⟩
abbrev S_ : Shape := ⟨0, ![]⟩

abbrev nBuf : Space → Nat
  | .hbm => 30
  | .vmem => 14
  | .smem => 0
  | _ => 0

abbrev bufTy : (tb : Table) → Fin (tcTables nBuf tb) → BufTy
  | .hbm, ⟨0, _⟩ => ⟨S8x8192x128, .f32⟩
  | .hbm, ⟨1, _⟩ => ⟨S8x32x1024, .f32⟩
  | .hbm, ⟨2, _⟩ => ⟨S8x1024x32, .f32⟩
  | .hbm, ⟨3, _⟩ => ⟨S8x1024x32, .f32⟩
  | .hbm, ⟨4, _⟩ => ⟨S8x16x512x128, .f32⟩
  | .hbm, ⟨5, _⟩ => ⟨S4x32x1024, .f32⟩
  | .hbm, ⟨6, _⟩ => ⟨S4x32x64x16, .f32⟩
  | .hbm, ⟨7, _⟩ => ⟨S16x64x4x32, .f32⟩
  | .hbm, ⟨8, _⟩ => ⟨S16x64x128, .f32⟩
  | .hbm, ⟨9, _⟩ => ⟨S4x32x1024, .f32⟩
  | .hbm, ⟨10, _⟩ => ⟨S4x32x64x16, .f32⟩
  | .hbm, ⟨11, _⟩ => ⟨S16x64x4x32, .f32⟩
  | .hbm, ⟨12, _⟩ => ⟨S16x64x128, .f32⟩
  | .hbm, ⟨13, _⟩ => ⟨S4x1024x32, .f32⟩
  | .hbm, ⟨14, _⟩ => ⟨S4x64x16x32, .f32⟩
  | .hbm, ⟨15, _⟩ => ⟨S16x4x32x64, .f32⟩
  | .hbm, ⟨16, _⟩ => ⟨S16x128x64, .f32⟩
  | .hbm, ⟨17, _⟩ => ⟨S4x1024x32, .f32⟩
  | .hbm, ⟨18, _⟩ => ⟨S4x64x16x32, .f32⟩
  | .hbm, ⟨19, _⟩ => ⟨S16x4x32x64, .f32⟩
  | .hbm, ⟨20, _⟩ => ⟨S16x128x64, .f32⟩
  | .hbm, ⟨21, _⟩ => ⟨S8x16x512x128, .f32⟩
  | .hbm, ⟨22, _⟩ => ⟨S4x8x8x32, .i32⟩
  | .hbm, ⟨23, _⟩ => ⟨S1x1, .f32⟩
  | .hbm, ⟨24, _⟩ => ⟨S8x8192x128, .f32⟩
  | .hbm, ⟨25, _⟩ => ⟨S8x8x4x32, .i32⟩
  | .hbm, ⟨26, _⟩ => ⟨S8x8x128, .i32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S8x16x128x128, .f32⟩
  | .local _ .vmem, ⟨1, _⟩ => ⟨S8x16x128x128, .f32⟩
  | .local _ .vmem, ⟨2, _⟩ => ⟨S16x64x128, .f32⟩
  | .local _ .vmem, ⟨3, _⟩ => ⟨S16x64x128, .f32⟩
  | .local _ .vmem, ⟨4, _⟩ => ⟨S16x128x64, .f32⟩
  | .local _ .vmem, ⟨5, _⟩ => ⟨S16x128x64, .f32⟩
  | .local _ .vmem, ⟨6, _⟩ => ⟨S8x1024x32, .f32⟩
  | .local _ .vmem, ⟨7, _⟩ => ⟨S8x16x128x128, .f32⟩
  | .local _ .vmem, ⟨8, _⟩ => ⟨S8x16x128x128, .f32⟩
  | .local _ .vmem, ⟨9, _⟩ => ⟨S1x8x8x32, .i32⟩
  | .local _ .vmem, ⟨10, _⟩ => ⟨S1x8x8x32, .i32⟩
  | .local _ .vmem, ⟨11, _⟩ => ⟨S1x1, .f32⟩
  | .local _ .vmem, ⟨12, _⟩ => ⟨S8x1024x32, .f32⟩
  | .local _ .vmem, ⟨13, _⟩ => ⟨S8x1x1024, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v17_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x8x32 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8x8192x128 : Shape := ⟨3, ![8, 8192, 128]⟩
abbrev S8x32x1024 : Shape := ⟨3, ![8, 32, 1024]⟩
abbrev S8x1024x32 : Shape := ⟨3, ![8, 1024, 32]⟩
abbrev S8x16x512x128 : Shape := ⟨4, ![8, 16, 512, 128]⟩
abbrev S8x512x128x16 : Shape := ⟨4, ![8, 512, 128, 16]⟩
abbrev S8x512x2048 : Shape := ⟨3, ![8, 512, 2048]⟩
abbrev S8x128x4x2048 : Shape := ⟨4, ![8, 128, 4, 2048]⟩
abbrev S8x128x8192 : Shape := ⟨3, ![8, 128, 8192]⟩
abbrev S8x128x8x1024 : Shape := ⟨4, ![8, 128, 8, 1024]⟩
abbrev S8x8x128x32 : Shape := ⟨4, ![8, 8, 128, 32]⟩
abbrev S_ : Shape := ⟨0, ![]⟩
abbrev S8x8x128 : Shape := ⟨3, ![8, 8, 128]⟩
abbrev S8x8x128x1 : Shape := ⟨4, ![8, 8, 128, 1]⟩
abbrev S8x1024 : Shape := ⟨2, ![8, 1024]⟩
abbrev S8x1024x1 : Shape := ⟨3, ![8, 1024, 1]⟩
abbrev S8x8x128x1024 : Shape := ⟨4, ![8, 8, 128, 1024]⟩
abbrev S8x1x1x1024 : Shape := ⟨4, ![8, 1, 1, 1024]⟩
abbrev S1 : Shape := ⟨1, ![1]⟩
abbrev S1x1x1x1 : Shape := ⟨4, ![1, 1, 1, 1]⟩
abbrev S8 : Shape := ⟨1, ![8]⟩
abbrev S8x1024x8x128 : Shape := ⟨4, ![8, 1024, 8, 128]⟩

abbrev nBuf : Space → Nat
  | .hbm => 108
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x32x1024, .f32⟩
  | .hbm, ⟨2, _⟩ => ⟨S8x1024x32, .f32⟩
  | .hbm, ⟨3, _⟩ => ⟨S8x1024x32, .f32⟩
  | .hbm, ⟨4, _⟩ => ⟨S8x16x512x128, .f32⟩
  | .hbm, ⟨5, _⟩ => ⟨S8x512x128x16, .f32⟩
  | .hbm, ⟨6, _⟩ => ⟨S8x512x2048, .f32⟩
  | .hbm, ⟨7, _⟩ => ⟨S8x128x4x2048, .f32⟩
  | .hbm, ⟨8, _⟩ => ⟨S8x128x8192, .f32⟩
  | .hbm, ⟨9, _⟩ => ⟨S8x128x8x1024, .f32⟩
  | .hbm, ⟨10, _⟩ => ⟨S8x8x128x32, .f32⟩
  | .hbm, ⟨11, _⟩ => ⟨S8x8x128x32, .f32⟩
  | .hbm, ⟨12, _⟩ => ⟨S_, .f32⟩
  | .hbm, ⟨13, _⟩ => ⟨S8x8x128, .f32⟩
  | .hbm, ⟨14, _⟩ => ⟨S8x8x128x1, .f32⟩
  | .hbm, ⟨15, _⟩ => ⟨S8x8x128x1, .f32⟩
  | .hbm, ⟨16, _⟩ => ⟨S_, .f32⟩
  | .hbm, ⟨17, _⟩ => ⟨S8x8x128x1, .f32⟩
  | .hbm, ⟨18, _⟩ => ⟨S8x8x128x1, .f32⟩
  | .hbm, ⟨19, _⟩ => ⟨S8x8x128x32, .f32⟩
  | .hbm, ⟨20, _⟩ => ⟨S8x8x128x32, .f32⟩
  | .hbm, ⟨21, _⟩ => ⟨S8x1024x32, .f32⟩
  | .hbm, ⟨22, _⟩ => ⟨S_, .f32⟩
  | .hbm, ⟨23, _⟩ => ⟨S8x1024, .f32⟩
  | .hbm, ⟨24, _⟩ => ⟨S8x1024x1, .f32⟩
  | .hbm, ⟨25, _⟩ => ⟨S8x1024x1, .f32⟩
  | .hbm, ⟨26, _⟩ => ⟨S_, .f32⟩
  | .hbm, ⟨27, _⟩ => ⟨S8x1024x1, .f32⟩
  | .hbm, ⟨28, _⟩ => ⟨S8x1024x1, .f32⟩
  | .hbm, ⟨29, _⟩ => ⟨S8x1024x32, .f32⟩
  | .hbm, ⟨30, _⟩ => ⟨S8x1024x32, .f32⟩
  | .hbm, ⟨31, _⟩ => ⟨S8x8x128x32, .f32⟩
  | .hbm, ⟨32, _⟩ => ⟨S_, .f32⟩
  | .hbm, ⟨33, _⟩ => ⟨S8x8x128, .f32⟩
  | .hbm, ⟨34, _⟩ => ⟨S8x8x128x1, .f32⟩
  | .hbm, ⟨35, _⟩ => ⟨S8x8x128x1024, .f32⟩
  | .hbm, ⟨36, _⟩ => ⟨S_, .f32⟩
  | .hbm, ⟨37, _⟩ => ⟨S8x8x128x1024, .f32⟩
  | .hbm, ⟨38, _⟩ => ⟨S8x8x128x1024, .f32⟩
  | .hbm, ⟨39, _⟩ => ⟨S8x8x128x1024, .f32⟩
  | .hbm, ⟨40, _⟩ => ⟨S8x8x128x1024, .f32⟩
  | .hbm, ⟨41, _⟩ => ⟨S8x1024x32, .f32⟩
  | .hbm, ⟨42, _⟩ => ⟨S_, .f32⟩
  | .hbm, ⟨43, _⟩ => ⟨S8x1024, .f32⟩
  | .hbm, ⟨44, _⟩ => ⟨S8x1x1x1024, .f32⟩
  | .hbm, ⟨45, _⟩ => ⟨S8x8x128x1024, .f32⟩
  | .hbm, ⟨46, _⟩ => ⟨S8x8x128x1024, .f32⟩
  | .hbm, ⟨47, _⟩ => ⟨S8x8x128x1024, .i32⟩
  | .hbm, ⟨48, _⟩ => ⟨S_, .f32⟩
  | .hbm, ⟨49, _⟩ => ⟨S_, .i32⟩
  | .hbm, ⟨50, _⟩ => ⟨S8x8x128, .f32⟩
  | .hbm, ⟨51, _⟩ => ⟨S8x8x128, .i32⟩
  | .hbm, ⟨52, _⟩ => ⟨S_, .i32⟩
  | .hbm, ⟨53, _⟩ => ⟨S8x8x128, .i32⟩
  | .hbm, ⟨54, _⟩ => ⟨S8x8x128, .i1⟩
  | .hbm, ⟨55, _⟩ => ⟨S_, .i32⟩
  | .hbm, ⟨56, _⟩ => ⟨S8x8x128, .i32⟩
  | .hbm, ⟨57, _⟩ => ⟨S8x8x128, .i32⟩
  | .hbm, ⟨58, _⟩ => ⟨S8x8x128, .i32⟩
  | .hbm, ⟨59, _⟩ => ⟨S8x8x128x1, .i32⟩
  | .hbm, ⟨60, _⟩ => ⟨S1, .i32⟩
  | .hbm, ⟨61, _⟩ => ⟨S_, .i32⟩
  | .hbm, ⟨62, _⟩ => ⟨S8x8x128x1, .i32⟩
  | .hbm, ⟨63, _⟩ => ⟨S8x8x128x1, .i1⟩
  | .hbm, ⟨64, _⟩ => ⟨S1x1x1x1, .i32⟩
  | .hbm, ⟨65, _⟩ => ⟨S8x8x128x1, .i32⟩
  | .hbm, ⟨66, _⟩ => ⟨S8x8x128x1, .i1⟩
  | .hbm, ⟨67, _⟩ => ⟨S8x8x128x1, .i1⟩
  | .hbm, ⟨68, _⟩ => ⟨S_, .i1⟩
  | .hbm, ⟨69, _⟩ => ⟨S8x8x128, .i1⟩
  | .hbm, ⟨70, _⟩ => ⟨S8x8x128x32, .f32⟩
  | .hbm, ⟨71, _⟩ => ⟨S8x8x128x32, .i1⟩
  | .hbm, ⟨72, _⟩ => ⟨S_, .f32⟩
  | .hbm, ⟨73, _⟩ => ⟨S8x8x128x32, .f32⟩
  | .hbm, ⟨74, _⟩ => ⟨S8x8x128x32, .f32⟩
  | .hbm, ⟨75, _⟩ => ⟨S8x8x128x32, .f32⟩
  | .hbm, ⟨76, _⟩ => ⟨S8x8x128x32, .f32⟩
  | .hbm, ⟨77, _⟩ => ⟨S_, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8x8x128x32, .f32⟩
  | .hbm, ⟨83, _⟩ => ⟨S8x8x128x32, .f32⟩
  | .hbm, ⟨84, _⟩ => ⟨S_, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S8x8x128x32, .f32⟩
  | .hbm, ⟨90, _⟩ => ⟨S8x8x128x32, .f32⟩
  | .hbm, ⟨91, _⟩ => ⟨S8x1024x8x128, .f32⟩
  | .hbm, ⟨92, _⟩ => ⟨S8x128x8x1024, .f32⟩
  | .hbm, ⟨93, _⟩ => ⟨S8x128x8192, .f32⟩
  | .hbm, ⟨94, _⟩ => ⟨S8x128x4x2048, .f32⟩
  | .hbm, ⟨95, _⟩ => ⟨S8x512x2048, .f32⟩
  | .hbm, ⟨96, _⟩ => ⟨S8x512x128x16, .f32⟩
  | .hbm, ⟨97, _⟩ => ⟨S8x16x512x128, .f32⟩
  | .hbm, ⟨98, _⟩ => ⟨S8x8192x128, .f32⟩
  | .hbm, ⟨99, _⟩ => ⟨S8x8x128, .i32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_v0 : Ref sig .tc := ⟨.hbm, 47, rfl⟩
abbrev main_call2_cst : Ref sig .tc := ⟨.hbm, 48, rfl⟩
abbrev main_call2_c : Ref sig .tc := ⟨.hbm, 49, rfl⟩
abbrev main_call2_v1_0 : Ref sig .tc := ⟨.hbm, 50, rfl⟩
abbrev main_v30 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_call3_cst : Ref sig .tc := ⟨.hbm, 72, rfl⟩
abbrev main_call3_v15 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_4 : Ref sig .tc := ⟨.hbm, 77, rfl⟩
abbrev main_v34 : Ref sig .tc := ⟨.hbm, 78, rfl⟩
abbrev main_cst_5 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_6 : Ref sig .tc := ⟨.hbm, 84, rfl⟩
abbrev main_v39 : Ref sig .tc := ⟨.hbm, 85, rfl⟩
abbrev main_cst_7 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_8 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_cst_10 : Ref sig .tc := ⟨.hbm, 104, rfl⟩
abbrev main_v55 : Ref sig .tc := ⟨.hbm, 105, rfl⟩
abbrev main_cst_11 : Ref sig .tc := ⟨.hbm, 106, rfl⟩
abbrev main_v56 : Ref sig .tc := ⟨.hbm, 107, rfl⟩

abbrev nD : Nat := 1
abbrev τ : Topo := Topo.v7x

variable {F : FTy → Type} [FloatOps F]
-- ==== Proof.Body.lean ====
/- What one grid point of the kernel stores, in one vocabulary: one Lean term for each intermediate array of the body, with the
   frame channel, the quantiser and the shift as parameters. The generated payloads are these terms. -/
module

public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-! ### The block offsets are in bounds -/

theorem inb_frame (h : Fin 16) : ∀ a, (![0, h.val, 0, 0] : Fin 4 → Nat) a + S8x1x128x128.size a ≤ S8x16x128x128.size a := by
  revert h; decide
theorem inb_down (h : Fin 16) : ∀ a, (![h.val, 0, 0] : Fin 3 → Nat) a + S1x64x128.size a ≤ S16x64x128.size a := by
  revert h; decide
theorem inb_up (h : Fin 16) : ∀ a, (![h.val, 0, 0] : Fin 3 → Nat) a + S1x128x64.size a ≤ S16x128x64.size a := by
  revert h; decide
theorem inb_book (q : Fin 8) : ∀ a, (![q.val, 0, 0] : Fin 3 → Nat) a + S1x1024x32.size a ≤ S8x1024x32.size a := by
  revert q; decide
theorem inb_norm (q : Fin 8) : ∀ a, (![q.val, 0, 0] : Fin 3 → Nat) a + S1x1x1024.size a ≤ S8x1x1024.size a := by
  revert q; decide
theorem inb_code (q : Fin 8) : ∀ a, (![0, q.val, 0, 0] : Fin 4 → Nat) a + S1x1x8x32.size a ≤ S1x8x8x32.size a := by
  revert q; decide
theorem slices_group (o : Fin 4) : S8x32x4x128.Slices ![0, 0, o.val, 32 * o.val] S8x32x1x32 := by
  revert o; decide
theorem slices_half (s : Fin 2) : S1024x128.Slices ![0, 64 * s.val] S1024x64 := by
  revert s; decide

/-! ### The down projection -/

/-- The rows of frame channel `h` of the block. -/
def rowsOf (x0 : Vec F S8x16x128x128 .f32) (h : Fin 16) : FVec F S1024x128 .f32 :=
  shapeCast S1024x128 (shapeCast S8x128x128 (View.ld x0 (Rect.unit ![0, h.val, 0, 0] S8x1x128x128.size (inb_frame h)))
    shapeCasts_S8x1x128x128_S8x128x128) shapeCasts_S8x128x128_S1024x128

/-- Frame channel `h`'s product of the half `s` of its rows with its weights. -/
def downDot (s : Fin 2) (x0 : Vec F S8x16x128x128 .f32) (w : Vec F S16x64x128 .f32) (h : Fin 16) : FVec F S1024x128 .f32 :=
  matmul dot_S1024x64_S64x128_S1024x128_1_0_0_1_n_n none
    (extractStridedSlice S1024x64 ![0, 64 * s.val] (rowsOf x0 h) (slices_half s))
    (shapeCast S64x128 (View.ld w (Rect.unit ![h.val, 0, 0] S1x64x128.size (inb_down h))) shapeCasts_S1x64x128_S64x128)
    (constant S1024x128 .f32 0x00000000#32)

/-- The sum over the first `n` frame channels. -/
def downAcc (s : Fin 2) (x0 : Vec F S8x16x128x128 .f32) (w : Vec F S16x64x128 .f32) : ℕ → FVec F S1024x128 .f32
  | 0 => broadcast S1024x128 (Scalar.ofBits .f32 0x00000000#32 : F .f32)
  | n + 1 => addf (downAcc s x0 w n) (downDot s x0 w (Fin.ofNat 16 n))

/-- The down projections of shift parity `s`, by batch, time, shift and packed channel. -/
def down (s : Fin 2) (x0 : Vec F S8x16x128x128 .f32) (w : Vec F S16x64x128 .f32) : FVec F S8x32x4x128 .f32 :=
  shapeCast S8x32x4x128 (downAcc s x0 w 16) shapeCasts_S1024x128_S8x32x4x128

/-- The rows of group `o`. -/
def group (o : Fin 4) (a : FVec F S8x32x4x128 .f32) : FVec F S256x32 .f32 :=
  shapeCast S256x32 (shapeCast S8x32x32 (extractStridedSlice S8x32x1x32 ![0, 0, o.val, 32 * o.val] a (slices_group o))
    shapeCasts_S8x32x1x32_S8x32x32) shapeCasts_S8x32x32_S256x32

/-! ### The codebooks -/

/-- One codebook's rows, normalised. -/
def bookNormed (e : Vec F S1x1024x32 .f32) : FVec F S1024x32 .f32 :=
  have e' : FVec F S1024x32 .f32 := shapeCast S1024x32 e shapeCasts_S1x1024x32_S1024x32
  mulf e' (broadcastTo S1024x32 (divf (broadcast S1024x1 (Scalar.ofBits .f32 0x3F800000#32 : F .f32))
    (addf (sqrt (shapeCast S1024x1 (multiReduction .add [1] S1024 (mulf e' e') 0x00000000#32 reduces_S1024x32_S1024 (.inl rfl) rfl)
      shapeCasts_S1024_S1024x1)) (broadcast S1024x1 (Scalar.ofBits .f32 0x322BCC77#32 : F .f32)))) broadcasts_S1024x1_S1024x32)

/-- The normalised codebook `q`, as stored. -/
def bookRow (x5 : Vec F S8x1024x32 .f32) (q : Fin 8) : FVec F S1x1024x32 .f32 :=
  shapeCast S1x1024x32 (bookNormed (View.ld x5 (Rect.unit ![q.val, 0, 0] S1x1024x32.size (inb_book q)))) shapeCasts_S1024x32_S1x1024x32

/-- The squared norms of the normalised codebook `q`, as stored. -/
def normRow (x5 : Vec F S8x1024x32 .f32) (q : Fin 8) : FVec F S1x1x1024 .f32 :=
  have n : FVec F S1024x32 .f32 := bookNormed (View.ld x5 (Rect.unit ![q.val, 0, 0] S1x1024x32.size (inb_book q)))
  shapeCast S1x1x1024 (shapeCast S1x1024 (multiReduction .add [1] S1024 (mulf n n) 0x00000000#32 reduces_S1024x32_S1024 (.inl rfl) rfl)
    shapeCasts_S1024_S1x1024) shapeCasts_S1x1024_S1x1x1024

/-! ### One quantiser -/

/-- The rows of `z`, normalised. -/
def rowsNormed (z : FVec F S256x32 .f32) : FVec F S256x32 .f32 :=
  mulf z (broadcastTo S256x32 (divf (broadcast S256x1 (Scalar.ofBits .f32 0x3F800000#32 : F .f32))
    (addf (sqrt (shapeCast S256x1 (multiReduction .add [1] S256 (mulf z z) 0x00000000#32 reduces_S256x32_S256 (.inl rfl) rfl)
      shapeCasts_S256_S256x1)) (broadcast S256x1 (Scalar.ofBits .f32 0x322BCC77#32 : F .f32)))) broadcasts_S256x1_S256x32)

/-- The codebook the scratch holds for quantiser `q`. -/
def book (xs0 : Vec F S8x1024x32 .f32) (q : Fin 8) : FVec F S1024x32 .f32 :=
  shapeCast S1024x32 (View.ld xs0 (Rect.unit ![q.val, 0, 0] S1x1024x32.size (inb_book q))) shapeCasts_S1x1024x32_S1024x32

/-- The squared norms the scratch holds for quantiser `q`. -/
def norms (xs1 : Vec F S8x1x1024 .f32) (q : Fin 8) : FVec F S1x1024 .f32 :=
  shapeCast S1x1024 (View.ld xs1 (Rect.unit ![q.val, 0, 0] S1x1x1024.size (inb_norm q))) shapeCasts_S1x1x1024_S1x1024

/-- The distances of the normalised rows `n` to the codebook rows `e` with squared norms `ee`. -/
def dist (n : FVec F S256x32 .f32) (e : FVec F S1024x32 .f32) (ee : FVec F S1x1024 .f32) : FVec F S256x1024 .f32 :=
  addf (subf (broadcastTo S256x1024 (shapeCast S256x1 (multiReduction .add [1] S256 (mulf n n) 0x00000000#32 reduces_S256x32_S256 (.inl rfl) rfl)
      shapeCasts_S256_S256x1) broadcasts_S256x1_S256x1024)
    (mulf (broadcast S256x1024 (Scalar.ofBits .f32 0x40000000#32 : F .f32))
      (matmul dot_S256x32_S32x1024_S256x1024_1_0_0_1_n_n none n (transpose S32x1024 [1, 0] e transposes_S1024x32_p1_0_S32x1024)
        (constant S256x1024 .f32 0x00000000#32))))
    (broadcastTo S256x1024 ee broadcasts_S1x1024_S256x1024)

/-- The first column at which each row of `d` is smallest. -/
def codeOf (d : FVec F S256x1024 .f32) : IVec S256 32 :=
  multiReductionI .minsi [1] S256 (select (cmpf .ole d (broadcastTo S256x1024 (shapeCast S256x1
      (multiReduction .minimumf [1] S256 d 0x7F800000#32 reduces_S256x1024_S256 (.inl rfl) rfl) shapeCasts_S256_S256x1)
      broadcasts_S256x1_S256x1024)) (iota .tc S256x1024 32 [1] iota_S256x1024_d1_w32) (broadcast S256x1024 1024#32))
    2147483647#32 reduces_S256x1024_S256 rfl

/-- The codebook rows the codes select. -/
def pick (k : IVec S256 32) (e : FVec F S1024x32 .f32) : FVec F S256x32 .f32 :=
  matmul dot_S256x1024_S1024x32_S256x32_1_0_0_1_n_n none (sitofp .f32 (extui 32 (cmpi .eq (broadcastTo S256x1024
      (shapeCast S256x1 k shapeCasts_S256_S256x1) broadcasts_S256x1_S256x1024) (iota .tc S256x1024 32 [1] iota_S256x1024_d1_w32)) natLt_1_32))
    e (constant S256x32 .f32 0x00000000#32)

/-- The sum of the squared differences. -/
def sqErr (p z : FVec F S256x32 .f32) : F .f32 :=
  extractAt ![0, 0, 0] (shapeCast S1x1x1 (multiReduction .add [1, 2] S1 (shapeCast S1x256x32 (mulf (subf p z) (subf p z))
    shapeCasts_S256x32_S1x256x32) 0x00000000#32 reduces_S1x256x32_S1 (.inl rfl) rfl) shapeCasts_S1_S1x1x1) inpos_S1x1x1_p0_0_0

/-- Zero columns. -/
def zeros (S : Shape) : FVec F S .f32 := broadcast S (Scalar.ofBits .f32 0x00000000#32 : F .f32)

/-- Group `o`'s rows among the packed channels, zero elsewhere. -/
def placed : Fin 4 → FVec F S256x32 .f32 → FVec F S8x32x1x128 .f32
  | 0, p => shapeCast S8x32x1x128 (concatenate S256x128 1 [⟨S256x32, p⟩, ⟨S256x96, zeros S256x96⟩]
      concatenates_S256x32_S256x96_S256x128_d1) shapeCasts_S256x128_S8x32x1x128
  | 1, p => shapeCast S8x32x1x128 (concatenate S256x128 1 [⟨S256x32, zeros S256x32⟩, ⟨S256x32, p⟩, ⟨S256x64, zeros S256x64⟩]
      concatenates_S256x32_S256x32_S256x64_S256x128_d1) shapeCasts_S256x128_S8x32x1x128
  | 2, p => shapeCast S8x32x1x128 (concatenate S256x128 1 [⟨S256x64, zeros S256x64⟩, ⟨S256x32, p⟩, ⟨S256x32, zeros S256x32⟩]
      concatenates_S256x64_S256x32_S256x32_S256x128_d1) shapeCasts_S256x128_S8x32x1x128
  | 3, p => shapeCast S8x32x1x128 (concatenate S256x128 1 [⟨S256x96, zeros S256x96⟩, ⟨S256x32, p⟩]
      concatenates_S256x96_S256x32_S256x128_d1) shapeCasts_S256x128_S8x32x1x128

/-- The four groups of one shift parity, stacked. -/
def stacked (p : Fin 4 → FVec F S256x32 .f32) : FVec F S1024x128 .f32 :=
  shapeCast S1024x128 (concatenate S8x32x4x128 2 [⟨S8x32x1x128, placed 0 (p 0)⟩, ⟨S8x32x1x128, placed 1 (p 1)⟩,
    ⟨S8x32x1x128, placed 2 (p 2)⟩, ⟨S8x32x1x128, placed 3 (p 3)⟩]
    concatenates_S8x32x1x128_S8x32x1x128_S8x32x1x128_S8x32x1x128_S8x32x4x128_d2) shapeCasts_S8x32x4x128_S1024x128

/-- Frame channel `h` of the stored block. -/
def outRow (a b : FVec F S1024x128 .f32) (x3 x4 : Vec F S16x128x64 .f32) (h : Fin 16) : FVec F S8x1x128x128 .f32 :=
  shapeCast S8x1x128x128 (shapeCast S8x128x128 (concatenate S1024x128 1
    [⟨S1024x64, matmul dot_S1024x128_S128x64_S1024x64_1_0_0_1_n_n none a
      (shapeCast S128x64 (View.ld x3 (Rect.unit ![h.val, 0, 0] S1x128x64.size (inb_up h))) shapeCasts_S1x128x64_S128x64)
      (constant S1024x64 .f32 0x00000000#32)⟩,
     ⟨S1024x64, matmul dot_S1024x128_S128x64_S1024x64_1_0_0_1_n_n none b
      (shapeCast S128x64 (View.ld x4 (Rect.unit ![h.val, 0, 0] S1x128x64.size (inb_up h))) shapeCasts_S1x128x64_S128x64)
      (constant S1024x64 .f32 0x00000000#32)⟩]
    concatenates_S1024x64_S1024x64_S1024x128_d1) shapeCasts_S1024x128_S8x128x128) shapeCasts_S8x128x128_S8x1x128x128

/-! ### The body at one grid point -/

section
variable (x0 : Vec F S8x16x128x128 .f32) (x1 x2 : Vec F S16x64x128 .f32) (x3 x4 : Vec F S16x128x64 .f32)
  (xs0 : Vec F S8x1024x32 .f32) (xs1 : Vec F S8x1x1024 .f32)

/-- Quantiser `2 o + s`. -/
abbrev quant (o : Fin 4) (s : Fin 2) : Fin 8 := ⟨2 * o.val + s.val, by omega⟩

/-- The rows quantiser `2 o + s` reads. -/
def zrows (o : Fin 4) : Fin 2 → FVec F S256x32 .f32
  | 0 => group o (down 0 x0 x1)
  | 1 => group o (down 1 x0 x2)

/-- Its codes. -/
def codes (o : Fin 4) (s : Fin 2) : IVec S256 32 :=
  codeOf (dist (rowsNormed (zrows x0 x1 x2 o s)) (book xs0 (quant o s)) (norms xs1 (quant o s)))

/-- Its quantised rows. -/
def zq (o : Fin 4) (s : Fin 2) : FVec F S256x32 .f32 := pick (codes x0 x1 x2 xs0 xs1 o s) (book xs0 (quant o s))

/-- Its squared error. -/
def err (o : Fin 4) (s : Fin 2) : F .f32 := sqErr (zq x0 x1 x2 xs0 xs1 o s) (zrows x0 x1 x2 o s)

/-- Its codes, as stored. -/
def codeRow (o : Fin 4) (s : Fin 2) : IVec S1x1x8x32 32 :=
  shapeCast S1x1x8x32 (shapeCast S8x32 (codes x0 x1 x2 xs0 xs1 o s) shapeCasts_S256_S8x32) shapeCasts_S8x32_S1x1x8x32

/-- The point's error: the sum over the quantisers. -/
def errSum : F .f32 :=
  Scalar.addf (Scalar.addf (Scalar.addf (Scalar.addf (Scalar.addf (Scalar.addf (Scalar.addf (Scalar.addf
    (Scalar.ofBits .f32 0x00000000#32 : F .f32) (err x0 x1 x2 xs0 xs1 0 0)) (err x0 x1 x2 xs0 xs1 0 1)) (err x0 x1 x2 xs0 xs1 1 0))
    (err x0 x1 x2 xs0 xs1 1 1)) (err x0 x1 x2 xs0 xs1 2 0)) (err x0 x1 x2 xs0 xs1 2 1)) (err x0 x1 x2 xs0 xs1 3 0)) (err x0 x1 x2 xs0 xs1 3 1)

/-- Frame channel `h` of the point's block. -/
def outBlock (h : Fin 16) : FVec F S8x1x128x128 .f32 :=
  outRow (stacked fun o => zq x0 x1 x2 xs0 xs1 o 0) (stacked fun o => zq x0 x1 x2 xs0 xs1 o 1) x3 x4 h

/-- The loss, the point's error added. -/
def lossNext (l : Vec F S1x1 .f32) : FVec F S1x1 .f32 :=
  addf (shapeCast S1x1 l shapeCasts_S1x1_S1x1) (broadcast S1x1 (errSum x0 x1 x2 xs0 xs1))

/-- The stores of the frame block, the last one first. -/
def outPieces : List (View.Piece (Elt F) S8x16x128x128 .f32) :=
  (List.ofFn fun h : Fin 16 => (⟨Rect.unit ![0, h.rev.val, 0, 0] S8x1x128x128.size (inb_frame h.rev), outBlock x0 x1 x2 x3 x4 xs0 xs1 h.rev⟩ :
    View.Piece (Elt F) S8x16x128x128 .f32))

/-- The stores of the codes, the last one first. -/
def codePieces : List (View.Piece (Elt F) S1x8x8x32 .i32) :=
  [⟨Rect.unit ![0, 7, 0, 0] S1x1x8x32.size (inb_code 7), codeRow x0 x1 x2 xs0 xs1 3 1⟩,
   ⟨Rect.unit ![0, 6, 0, 0] S1x1x8x32.size (inb_code 6), codeRow x0 x1 x2 xs0 xs1 3 0⟩,
   ⟨Rect.unit ![0, 5, 0, 0] S1x1x8x32.size (inb_code 5), codeRow x0 x1 x2 xs0 xs1 2 1⟩,
   ⟨Rect.unit ![0, 4, 0, 0] S1x1x8x32.size (inb_code 4), codeRow x0 x1 x2 xs0 xs1 2 0⟩,
   ⟨Rect.unit ![0, 3, 0, 0] S1x1x8x32.size (inb_code 3), codeRow x0 x1 x2 xs0 xs1 1 1⟩,
   ⟨Rect.unit ![0, 2, 0, 0] S1x1x8x32.size (inb_code 2), codeRow x0 x1 x2 xs0 xs1 1 0⟩,
   ⟨Rect.unit ![0, 1, 0, 0] S1x1x8x32.size (inb_code 1), codeRow x0 x1 x2 xs0 xs1 0 1⟩,
   ⟨Rect.unit ![0, 0, 0, 0] S1x1x8x32.size (inb_code 0), codeRow x0 x1 x2 xs0 xs1 0 0⟩]

end

/-- The stores of the normalised codebooks, the last one first. -/
def bookPieces (x5 : Vec F S8x1024x32 .f32) : List (View.Piece (Elt F) S8x1024x32 .f32) :=
  List.ofFn fun q : Fin 8 => (⟨Rect.unit ![q.rev.val, 0, 0] S1x1024x32.size (inb_book q.rev), bookRow x5 q.rev⟩ : View.Piece (Elt F) S8x1024x32 .f32)

/-- The stores of their squared norms, the last one first. -/
def normPieces (x5 : Vec F S8x1024x32 .f32) : List (View.Piece (Elt F) S8x1x1024 .f32) :=
  List.ofFn fun q : Fin 8 => (⟨Rect.unit ![q.rev.val, 0, 0] S1x1x1024.size (inb_norm q.rev), normRow x5 q.rev⟩ : View.Piece (Elt F) S8x1x1024 .f32)

end Cert.KernelIdeal.Body

end
-- ==== Proof.Row.lean ====
/- One row of the quantiser, as mathematics over the extended reals: the normalised row, the distance, the first nearest codebook row;
   and the facts about extended reals that the two programs' different forms of it need. -/
module

public import Idealize.ShloMosaic.PureOps.Ideal.Laws
public import Idealize.ShloMosaic.Lib.IdealHost
public import Idealize.ShloMosaic.Lib.Routing.BitFacts

@[expose] public section

noncomputable section

namespace Cert.Row

open Idealize.ShloMosaic
open scoped BigOperators

/-! ## The row's functions -/

/-- The norm that a row is divided by: the small constant keeps it positive. -/
def len (v : Fin 32 → EReal) : EReal := Ideal.sqrt (∑ k, v k * v k) + Ideal.ofBits .f32 0x322BCC77#32

/-- A row over its norm. -/
def unit (v : Fin 32 → EReal) (k : Fin 32) : EReal := Ideal.div (v k) (len v)

/-- The squared distance of two rows, expanded. -/
def dist (n e : Fin 32 → EReal) : EReal :=
  (∑ k, n k * n k) - Ideal.ofBits .f32 0x40000000#32 * (∑ k, n k * e k) + ∑ k, e k * e k

theorem exists_first (d : Fin 1024 → EReal) : ∃ c : Fin 1024, ∀ j, d c ≤ d j ∧ (d j ≤ d c → c ≤ j) := by
  classical
  obtain ⟨m, -, hm⟩ := Finset.exists_min_image (Finset.univ : Finset (Fin 1024)) d ⟨0, Finset.mem_univ _⟩
  have hne : (Finset.univ.filter fun c : Fin 1024 => d c ≤ d m).Nonempty := ⟨m, by simp⟩
  refine ⟨(Finset.univ.filter fun c : Fin 1024 => d c ≤ d m).min' hne, fun j => ?_⟩
  have h1 : d ((Finset.univ.filter fun c : Fin 1024 => d c ≤ d m).min' hne) ≤ d m :=
    (Finset.mem_filter.mp (Finset.min'_mem _ hne)).2
  exact ⟨h1.trans (hm j (Finset.mem_univ _)), fun h => Finset.min'_le _ j (Finset.mem_filter.mpr ⟨Finset.mem_univ j, h.trans h1⟩)⟩

/-- The first index of least value. -/
def first (d : Fin 1024 → EReal) : Fin 1024 := (exists_first d).choose

theorem first_le (d : Fin 1024 → EReal) (j : Fin 1024) : d (first d) ≤ d j := ((exists_first d).choose_spec j).1

theorem first_first (d : Fin 1024 → EReal) (j : Fin 1024) (h : d j ≤ d (first d)) : first d ≤ j :=
  ((exists_first d).choose_spec j).2 h

theorem first_unique (d : Fin 1024 → EReal) (c : Fin 1024) (h1 : ∀ j, d c ≤ d j) (h2 : ∀ j, d j ≤ d c → c ≤ j) : c = first d :=
  le_antisymm (h2 _ (first_le d c)) (first_first d c (h1 _))

/-- The code of a row: the first nearest codebook row. -/
def code (z : Fin 32 → EReal) (E : Fin 1024 → Fin 32 → EReal) : Fin 1024 := first fun j => dist (unit z) (unit (E j))

/-- The quantised row. -/
def quant (z : Fin 32 → EReal) (E : Fin 1024 → Fin 32 → EReal) : Fin 32 → EReal := unit (E (code z E))

/-- The row's squared error. -/
def err (z : Fin 32 → EReal) (E : Fin 1024 → Fin 32 → EReal) : EReal :=
  ∑ k, (quant z E k - z k) * (quant z E k - z k)

/-! ## The norm is not zero -/

theorem sq_nonneg (x : EReal) : 0 ≤ x * x := by
  rcases le_total 0 x with h | h
  · exact EReal.mul_nonneg h h
  · exact EReal.mul_nonneg_iff.mpr (.inr ⟨h, h⟩)

theorem sum_sq_nonneg {ι : Type} (s : Finset ι) (v : ι → EReal) : 0 ≤ ∑ k ∈ s, v k * v k := Finset.sum_nonneg fun _ _ => sq_nonneg _

theorem sqrt_nonneg {x : EReal} (h : 0 ≤ x) : 0 ≤ Ideal.sqrt x := by
  induction x with
  | bot => exact absurd h (by simp)
  | top => exact le_top
  | coe r =>
    have hr : 0 ≤ r := EReal.coe_nonneg.mp h
    show 0 ≤ (if r < 0 then ⊥ else (Real.sqrt r : EReal))
    rw [if_neg (not_lt.mpr hr)]
    exact EReal.coe_nonneg.mpr (Real.sqrt_nonneg r)

theorem small_pos : 0 < Ideal.ofBits .f32 0x322BCC77#32 := by
  simp [Ideal.ofBits, Ideal.ieee, -EReal.coe_mul]

theorem len_ne_zero (v : Fin 32 → EReal) : len v ≠ 0 := by
  have h : 0 < len v := lt_of_lt_of_le small_pos (le_add_of_nonneg_left (sqrt_nonneg (sum_sq_nonneg _ _)))
  exact h.ne'

/-- The kernel multiplies by the reciprocal of the norm. -/
theorem mul_recip (v : Fin 32 → EReal) (k : Fin 32) : v k * Ideal.div 1 (len v) = unit v k := Ideal.mul_one_div (len_ne_zero v)

/-! ## Sums -/

/-- A sum with one indicator factor is the value at it. -/
theorem sum_indicator {ι : Type} [Fintype ι] [DecidableEq ι] (c : ι) (g f : ι → EReal) (h1 : g c = 1) (h0 : ∀ j, j ≠ c → g j = 0) :
    ∑ j, g j * f j = f c := by
  rw [Finset.sum_eq_single c (fun j _ hj => by rw [h0 j hj, zero_mul]) (fun h => absurd (Finset.mem_univ c) h), h1, one_mul]

/-- The straight-through sum of a real and anything is the latter. -/
theorem straight {z : EReal} (p : EReal) (h1 : z ≠ ⊥) (h2 : z ≠ ⊤) : z + (p - z) = p := by
  lift z to ℝ using ⟨h2, h1⟩
  induction p with
  | bot => simp
  | top => simp
  | coe r => norm_cast; ring

/-- Dividing by a positive real distributes over a sum. -/
theorem sum_div {ι : Type} (s : Finset ι) (f : ι → EReal) (c : ℝ) (hc : 0 < c) :
    ∑ i ∈ s, Ideal.div (f i) (c : EReal) = Ideal.div (∑ i ∈ s, f i) (c : EReal) := by
  classical
  have hc' : (c : EReal) ≠ 0 := by exact_mod_cast hc.ne'
  simp only [Ideal.div, if_neg hc']
  induction s using Finset.induction_on with
  | empty => simp
  | insert a s ha ih =>
    rw [Finset.sum_insert ha, Finset.sum_insert ha, ih,
      EReal.right_distrib_of_nonneg_of_ne_top (EReal.inv_nonneg_of_nonneg (by exact_mod_cast hc.le)) (EReal.inv_lt_top _).ne]

theorem ofBits_32768 : Ideal.ofBits .f32 0x47000000#32 = ((32768 : ℝ) : EReal) := by
  simp [Ideal.ofBits, Ideal.ieee, -EReal.coe_mul]
  norm_num

theorem ofBits_262144 : Ideal.ofBits .f32 0x48800000#32 = ((262144 : ℝ) : EReal) := by
  simp [Ideal.ofBits, Ideal.ieee, -EReal.coe_mul]
  norm_num

theorem ofBits_8 : Ideal.ofBits .f32 0x41000000#32 = ((8 : ℝ) : EReal) := by
  simp [Ideal.ofBits, Ideal.ieee, -EReal.coe_mul]
  norm_num

/-- The mean of the quantisers' means is the mean over everything. -/
theorem mean_of_means {ι : Type} (s : Finset ι) (f : ι → EReal) :
    Ideal.div (∑ m ∈ s, Ideal.div (f m) (Ideal.ofBits .f32 0x47000000#32)) (Ideal.ofBits .f32 0x41000000#32)
      = Ideal.div (∑ m ∈ s, f m) (Ideal.ofBits .f32 0x48800000#32) := by
  rw [ofBits_32768, ofBits_8, ofBits_262144, sum_div _ _ _ (by norm_num)]
  have h1 : ((32768 : ℝ) : EReal) ≠ 0 := by exact_mod_cast (by norm_num : (32768 : ℝ) ≠ 0)
  have h2 : ((8 : ℝ) : EReal) ≠ 0 := by exact_mod_cast (by norm_num : (8 : ℝ) ≠ 0)
  have h3 : ((262144 : ℝ) : EReal) ≠ 0 := by exact_mod_cast (by norm_num : (262144 : ℝ) ≠ 0)
  simp only [Ideal.div, if_neg h1, if_neg h2, if_neg h3, ← EReal.coe_inv]
  rw [mul_assoc, ← EReal.coe_mul]
  norm_num

end Cert.Row

end
-- ==== Proof.QuantValue.lean ====
/- The kernel's quantiser over the extended reals, read at an index: each row is the row of `Row.lean`. -/
module

public import proofs.«01_k».proof.Proof.Body
public import proofs.«01_k».proof.Proof.Row
public import Idealize.ShloMosaic.Lib.ValueLayout
public import Idealize.ShloMosaic.Lib.ValueLayoutCasts
public import Idealize.ShloMosaic.Lib.MatmulPlain
public import Idealize.ShloMosaic.Lib.SortNet.Extract
public import Idealize.ShloMosaic.Lib.WordCmp
public import Idealize.ShloMosaic.Lib.Pipeline.ValueKit.Tiles

@[expose] public section

noncomputable section

namespace Cert.KernelIdeal.Body

open Cert.KernelIdeal Cert.KernelIdeal.Gen Idealize.ShloMosaic Idealize.ShloMosaic.ValueIdx
open scoped BigOperators

/-! ### Casts and broadcasts at coordinates -/

section
variable {α : Type}

theorem column_apply {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun ax => by
    match ax with
    | ⟨0, _⟩ =>
      show i.val = if a = 1 then 0 else i.val
      by_cases h1 : a = 1
      · rw [if_pos h1]; have := i.isLt; omega
      · rw [if_neg h1]
    | ⟨1, _⟩ => rfl

theorem line_apply {a b : ℕ} (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ fun ax => by
    match ax with
    | ⟨0, _⟩ => rfl
    | ⟨1, _⟩ =>
      show j.val = if b = 1 then 0 else j.val
      by_cases h1 : b = 1
      · rw [if_pos h1]; have := j.isLt; omega
      · rw [if_neg h1]

end

/-- The index a row reduction inserts. -/
theorem lift_row {a b : ℕ} (h : Shape.Reduces ⟨2, ![a, b]⟩ [1] ⟨1, ![a]⟩) (i : Fin a) (k : Fin b) :
    h.lift (ix1 i) k = ix2 i k := by
  funext ax
  match ax with
  | ⟨0, _⟩ => rfl
  | ⟨1, _⟩ => rfl

theorem sum_row {a b : ℕ} (x : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (i : Fin a) :
    multiReduction .add [1] ⟨1, ![a]⟩ x 0x00000000#32 h hφ hacc (ix1 i) = ∑ k : Fin b, x (ix2 i k) := by
  refine (Ideal.multiReduction_add_single x _ h hφ hacc (ix1 i)).trans ?_
  exact Finset.sum_congr rfl fun k _ => congrArg x (lift_row h i k)

/-! ### The normalised rows -/

/-- Row `i` of a matrix. -/
abbrev rowOf {a b : ℕ} (x : FVec Ideal ⟨2, ![a, b]⟩ .f32) (i : Fin a) : Fin b → EReal := fun k => x (ix2 i k)

theorem rowsNormed_apply (z : FVec Ideal S256x32 .f32) (r : Fin 256) (k : Fin 32) :
    rowsNormed z (ix2 r k) = Row.unit (rowOf z r) k := by
  rw [← Row.mul_recip]
  unfold rowsNormed
  rw [mulf_apply, column_apply, divf_apply, addf_apply]
  show z (ix2 r k) * Ideal.div (Ideal.ofBits .f32 0x3F800000#32) (Ideal.sqrt (shapeCast S256x1 _ _ (ix2 r 0)) + Ideal.ofBits .f32 0x322BCC77#32) = _
  rw [shapeCast_a_a1_apply]; erw [sum_row]; rw [Ideal.ofBits_one_f32]
  rfl

theorem bookNormed_apply (e : Vec Ideal S1x1024x32 .f32) (j : Fin 1024) (k : Fin 32) :
    bookNormed e (ix2 j k) = Row.unit (fun k => e (ix3 (0 : Fin 1) j k)) k := by
  rw [← Row.mul_recip]
  unfold bookNormed
  dsimp only
  rw [mulf_apply, column_apply, divf_apply, addf_apply]
  show shapeCast S1024x32 e _ (ix2 j k) * Ideal.div (Ideal.ofBits .f32 0x3F800000#32) (Ideal.sqrt (shapeCast S1024x1 _ _ (ix2 j 0)) + Ideal.ofBits .f32 0x322BCC77#32) = _
  rw [shapeCast_a_a1_apply]; erw [sum_row]; rw [Ideal.ofBits_one_f32]
  simp only [mulf_apply, shapeCast_1ab_ab_apply]
  rfl

/-! ### The scratch codebooks -/

theorem bookRow_apply (x5 : Vec Ideal S8x1024x32 .f32) (q : Fin 8) (u : Fin 1) (j : Fin 1024) (k : Fin 32) :
    bookRow x5 q (ix3 u j k) = Row.unit (fun k => x5 (ix3 q j k)) k := by
  unfold bookRow
  rw [shapeCast_ab_1ab_apply, bookNormed_apply]
  refine congrArg (fun v => Row.unit v k) (funext fun k => ?_)
  exact View.ld_unit_apply_of _ _ _ _ _ (ix3 q j k) fun a => by
    match a with
    | ⟨0, _⟩ => rfl
    | ⟨1, _⟩ => exact (Nat.zero_add _).symm
    | ⟨2, _⟩ => exact (Nat.zero_add _).symm

theorem normRow_apply (x5 : Vec Ideal S8x1024x32 .f32) (q : Fin 8) (u v : Fin 1) (j : Fin 1024) :
    normRow x5 q (ix3 u v j) = ∑ k, Row.unit (fun k => x5 (ix3 q j k)) k * Row.unit (fun k => x5 (ix3 q j k)) k := by
  unfold normRow
  dsimp only
  rw [shapeCast_ab_1ab_apply, shapeCast_a_1a_apply]; erw [sum_row]
  refine Finset.sum_congr rfl fun k _ => ?_
  have h : bookNormed (View.ld x5 (Rect.unit ![q.val, 0, 0] S1x1024x32.size (inb_book q))) (ix2 j k)
      = Row.unit (fun k => x5 (ix3 q j k)) k := by
    rw [← bookRow_apply x5 q 0 j k]; unfold bookRow; rw [shapeCast_ab_1ab_apply]
  rw [mulf_apply, h]

/-- The scratch codebooks as one function of the argument. -/
def bookFn (x5 : Vec Ideal S8x1024x32 .f32) : Vec Ideal S8x1024x32 .f32 := fun i =>
  Row.unit (fun k => x5 (ix3 (i 0) (i 1) k)) (i 2)

/-- Their squared norms. -/
def normFn (x5 : Vec Ideal S8x1024x32 .f32) : Vec Ideal S8x1x1024 .f32 := fun i =>
  ∑ k, Row.unit (fun k => x5 (ix3 (i 0) (i 2) k)) k * Row.unit (fun k => x5 (ix3 (i 0) (i 2) k)) k

theorem canon_bookPieces (x5 : Vec Ideal S8x1024x32 .f32) : View.canon (bookPieces x5) = bookFn x5 := by
  funext y
  refine View.canon_apply_of_pieces (bookFn x5) _ ?_ y ?_
  · intro p hp
    obtain ⟨q, rfl⟩ := List.mem_ofFn.mp hp
    intro x
    obtain ⟨u, j, k, rfl⟩ : ∃ u j k, x = ix3 (n0 := 1) (n1 := 1024) (n2 := 32) u j k := ⟨x 0, x 1, x 2, (eq_ix3 x)⟩
    refine (bookRow_apply x5 q.rev u j k).trans ?_
    have e : (Rect.unit (s := S8x1024x32) ![q.rev.val, 0, 0] S1x1024x32.size (inb_book q.rev)).emb (ix3 u j k) = ix3 q.rev j k := by
      funext a; apply Fin.ext
      refine (Rect.idx_unit_val _ _ _ _ a).trans ?_
      match a with
      | ⟨0, _⟩ => show q.rev.val + u.val = q.rev.val; omega
      | ⟨1, _⟩ => exact Nat.zero_add _
      | ⟨2, _⟩ => exact Nat.zero_add _
    exact (congrArg (bookFn x5) e).symm
  · obtain ⟨q, hq⟩ : ∃ q : Fin 8, q.rev.val = (y 0).val := ⟨(y 0 : Fin 8).rev, congrArg Fin.val (Fin.rev_rev (y 0 : Fin 8))⟩
    refine ⟨_, List.mem_ofFn.mpr ⟨q, rfl⟩, ?_⟩
    refine (Rect.mem_set_unit (inb := inb_book q.rev)).mpr fun a => ?_
    match a with
    | ⟨0, _⟩ => exact ⟨hq.le, lt_of_le_of_lt hq.ge (Nat.lt_succ_self _)⟩
    | ⟨1, _⟩ => exact ⟨Nat.zero_le _, by have := (y 1).isLt; show _ < 0 + 1024; rw [Nat.zero_add]; exact this⟩
    | ⟨2, _⟩ => exact ⟨Nat.zero_le _, by have := (y 2).isLt; show _ < 0 + 32; rw [Nat.zero_add]; exact this⟩

theorem canon_normPieces (x5 : Vec Ideal S8x1024x32 .f32) : View.canon (normPieces x5) = normFn x5 := by
  funext y
  refine View.canon_apply_of_pieces (normFn x5) _ ?_ y ?_
  · intro p hp
    obtain ⟨q, rfl⟩ := List.mem_ofFn.mp hp
    intro x
    obtain ⟨u, v, j, rfl⟩ : ∃ u v j, x = ix3 (n0 := 1) (n1 := 1) (n2 := 1024) u v j := ⟨x 0, x 1, x 2, (eq_ix3 x)⟩
    refine (normRow_apply x5 q.rev u v j).trans ?_
    have e : (Rect.unit (s := S8x1x1024) ![q.rev.val, 0, 0] S1x1x1024.size (inb_norm q.rev)).emb (ix3 u v j) = ix3 q.rev v j := by
      funext a; apply Fin.ext
      refine (Rect.idx_unit_val _ _ _ _ a).trans ?_
      match a with
      | ⟨0, _⟩ => show q.rev.val + u.val = q.rev.val; omega
      | ⟨1, _⟩ => exact Nat.zero_add _
      | ⟨2, _⟩ => exact Nat.zero_add _
    exact (congrArg (normFn x5) e).symm
  · obtain ⟨q, hq⟩ : ∃ q : Fin 8, q.rev.val = (y 0).val := ⟨(y 0 : Fin 8).rev, congrArg Fin.val (Fin.rev_rev (y 0 : Fin 8))⟩
    refine ⟨_, List.mem_ofFn.mpr ⟨q, rfl⟩, ?_⟩
    refine (Rect.mem_set_unit (inb := inb_norm q.rev)).mpr fun a => ?_
    match a with
    | ⟨0, _⟩ => exact ⟨hq.le, lt_of_le_of_lt hq.ge (Nat.lt_succ_self _)⟩
    | ⟨1, _⟩ => exact ⟨Nat.zero_le _, by have := (y 1).isLt; show _ < 0 + 1; rw [Nat.zero_add]; exact this⟩
    | ⟨2, _⟩ => exact ⟨Nat.zero_le _, by have := (y 2).isLt; show _ < 0 + 1024; rw [Nat.zero_add]; exact this⟩

theorem book_apply (x5 : Vec Ideal S8x1024x32 .f32) (q : Fin 8) (j : Fin 1024) (k : Fin 32) :
    book (bookFn x5) q (ix2 j k) = Row.unit (fun k => x5 (ix3 q j k)) k := by
  unfold book
  rw [shapeCast_1ab_ab_apply]
  exact View.ld_unit_apply_of _ _ _ _ _ (ix3 q j k) fun a => by
    match a with
    | ⟨0, _⟩ => rfl
    | ⟨1, _⟩ => exact (Nat.zero_add _).symm
    | ⟨2, _⟩ => exact (Nat.zero_add _).symm

theorem norms_apply (x5 : Vec Ideal S8x1024x32 .f32) (q : Fin 8) (u : Fin 1) (j : Fin 1024) :
    norms (normFn x5) q (ix2 u j) = ∑ k, Row.unit (fun k => x5 (ix3 q j k)) k * Row.unit (fun k => x5 (ix3 q j k)) k := by
  unfold norms
  rw [shapeCast_1ab_ab_apply]
  exact View.ld_unit_apply_of _ _ _ _ _ (ix3 q u j) fun a => by
    match a with
    | ⟨0, _⟩ => rfl
    | ⟨1, _⟩ => exact (Nat.zero_add _).symm
    | ⟨2, _⟩ => exact (Nat.zero_add _).symm

/-! ### The distances and the codes -/

theorem product_apply {a b c : ℕ} (l : FVec Ideal ⟨2, ![a, b]⟩ .f32) (r : FVec Ideal ⟨2, ![b, c]⟩ .f32) (i : Fin a) (j : Fin c) :
    FloatOps.matmul (DotDims.plain a b c) none l r (constant ⟨2, ![a, c]⟩ .f32 0x00000000#32) (ix2 i j)
      = ∑ k, l (ix2 i k) * r (ix2 k j) := by
  rw [Ideal.matmul_plain_apply]
  show Ideal.ofBits .f32 0x00000000#32 + _ = _
  rw [Ideal.ofBits_zero_f32, zero_add]

theorem dist_apply (n : FVec Ideal S256x32 .f32) (e : FVec Ideal S1024x32 .f32) (ee : FVec Ideal S1x1024 .f32)
    (hee : ∀ j, ee (ix2 (0 : Fin 1) j) = ∑ k, e (ix2 j k) * e (ix2 j k)) (r : Fin 256) (j : Fin 1024) :
    dist n e ee (ix2 r j) = Row.dist (rowOf n r) (rowOf e j) := by
  unfold dist
  rw [addf_apply, subf_apply, mulf_apply, column_apply, line_apply, shapeCast_a_a1_apply, hee]; erw [sum_row]
  rw [show matmul dot_S256x32_S32x1024_S256x1024_1_0_0_1_n_n none n (transpose S32x1024 [1, 0] e transposes_S1024x32_p1_0_S32x1024)
        (constant S256x1024 .f32 0x00000000#32) (ix2 r j) = ∑ k, n (ix2 r k) * e (ix2 j k) from by
    refine (product_apply n (transpose S32x1024 [1, 0] e transposes_S1024x32_p1_0_S32x1024) r j).trans ?_
    exact Finset.sum_congr rfl fun k _ => by rw [transpose_ix2_apply]]
  rfl

theorem toInt_ofNat (j : Fin 1024) : (BitVec.ofNat 32 j.val).toInt = j.val := by
  have := j.isLt
  rw [BitVec.toInt_eq_toNat_of_lt (by rw [BitVec.toNat_ofNat]; omega), BitVec.toNat_ofNat, Nat.mod_eq_of_lt (by omega)]

theorem min_row (d : FVec Ideal S256x1024 .f32) (r : Fin 256) :
    multiReduction .minimumf [1] S256 d 0x7F800000#32 reduces_S256x1024_S256 (.inl rfl) rfl (ix1 r) = d (ix2 r (Row.first (rowOf d r))) := by
  classical
  refine (multiReduction_minimumf_eq_fold d _ reduces_S256x1024_S256 _ _ (ix1 r)).trans ?_
  rw [reduces_S256x1024_S256.fold_filter_drop_single]
  have hl : ∀ k : Fin 1024, reduces_S256x1024_S256.lift (ix1 r) k = ix2 r k := lift_row _ r
  apply le_antisymm
  · refine (Finset.fold_min_le _).mpr (.inr ⟨Row.first (rowOf d r), Finset.mem_univ _, le_of_eq ?_⟩)
    exact congrArg d (hl _)
  · refine (Finset.le_fold_min _).mpr ⟨?_, fun k _ => ?_⟩
    · have : (Scalar.ofBits .f32 0x7F800000#32 : Ideal .f32) = (⊤ : EReal) := by
        show Ideal.ofBits .f32 0x7F800000#32 = ⊤
        simp [Ideal.ofBits, Ideal.ieee]
      exact le_of_le_of_eq le_top this.symm
    · have := Row.first_le (rowOf d r) k
      exact this.trans_eq (congrArg d (hl k)).symm

theorem codeOf_apply (d : FVec Ideal S256x1024 .f32) (r : Fin 256) :
    codeOf d (ix1 r) = BitVec.ofNat 32 (Row.first (rowOf d r)).val := by
  classical
  apply BitVec.eq_of_toInt_eq
  unfold codeOf
  refine (congrArg BitVec.toInt (multiReductionI_eq_fold _ _ _ reduces_S256x1024_S256 _ (ix1 r))).trans ?_
  rw [reduces_S256x1024_S256.fold_filter_drop_single]
  have hl : ∀ k : Fin 1024, reduces_S256x1024_S256.lift (ix1 r) k = ix2 r k := lift_row _ r
  have hs : ∀ k : Fin 1024, (select (cmpf .ole d (broadcastTo S256x1024 (shapeCast S256x1
      (multiReduction .minimumf [1] S256 d 0x7F800000#32 reduces_S256x1024_S256 (.inl rfl) rfl) shapeCasts_S256_S256x1)
      broadcasts_S256x1_S256x1024)) (iota .tc S256x1024 32 [1] iota_S256x1024_d1_w32) (broadcast S256x1024 1024#32)) (ix2 r k)
      = if d (ix2 r k) ≤ d (ix2 r (Row.first (rowOf d r))) then BitVec.ofNat 32 k.val else 1024#32 := fun k => by
    rw [select_apply, cmpf_apply, column_apply, shapeCast_a_a1_apply, min_row, iota_single_apply]
    show Scalar.select (BitVec.ofBool (decide (d (ix2 r k) ≤ d (ix2 r (Row.first (rowOf d r)))))) _ _ = _
    by_cases h : d (ix2 r k) ≤ d (ix2 r (Row.first (rowOf d r)))
    · rw [if_pos h, decide_eq_true h]; rfl
    · rw [if_neg h, decide_eq_false h]; rfl
  show ((Finset.univ : Finset (Fin 1024)).fold IntOp.minsi 2147483647#32 _).toInt = _
  refine (Finset.fold_hom (op := IntOp.minsi) (op' := min) (m := BitVec.toInt) (SortNet.toInt_minsi)).symm.trans ?_
  rw [toInt_ofNat]
  apply le_antisymm
  · refine (Finset.fold_min_le _).mpr (.inr ⟨Row.first (rowOf d r), Finset.mem_univ _, le_of_eq ?_⟩)
    refine (congrArg BitVec.toInt ((congrArg _ (hl _)).trans (hs _))).trans ?_
    rw [if_pos le_rfl, toInt_ofNat]
  · refine (Finset.le_fold_min _).mpr ⟨?_, fun k _ => ?_⟩
    · have := (Row.first (rowOf d r)).isLt
      rw [show (2147483647#32 : BitVec 32).toInt = 2147483647 from by decide]; omega
    · refine le_of_le_of_eq ?_ (congrArg BitVec.toInt ((congrArg _ (hl k)).trans (hs k))).symm
      by_cases h : d (ix2 r k) ≤ d (ix2 r (Row.first (rowOf d r)))
      · rw [if_pos h, toInt_ofNat]
        exact_mod_cast Row.first_first (rowOf d r) k h
      · rw [if_neg h, show (1024#32 : BitVec 32).toInt = 1024 from by decide]
        have := (Row.first (rowOf d r)).isLt; omega

/-- The product with the one-hot rows is the selected row. -/
theorem pick_apply (c : IVec S256 32) (e : FVec Ideal S1024x32 .f32) (r : Fin 256) (k : Fin 32) (j : Fin 1024)
    (hc : c (ix1 r) = BitVec.ofNat 32 j.val) : pick c e (ix2 r k) = e (ix2 j k) := by
  unfold pick
  refine (product_apply _ e r k).trans ?_
  have hg : ∀ i : Fin 1024, sitofp (F := Ideal) .f32 (extui 32 (cmpi .eq (broadcastTo S256x1024
      (shapeCast S256x1 c shapeCasts_S256_S256x1) broadcasts_S256x1_S256x1024) (iota .tc S256x1024 32 [1] iota_S256x1024_d1_w32)) natLt_1_32) (ix2 r i)
      = if i = j then (1 : EReal) else 0 := fun i => by
    rw [sitofp_apply, extui_apply]
    show ((((IntOp.cmpi .eq (broadcastTo S256x1024 (shapeCast S256x1 c shapeCasts_S256_S256x1) broadcasts_S256x1_S256x1024 (ix2 r i))
      (iota .tc S256x1024 32 [1] iota_S256x1024_d1_w32 (ix2 r i))).setWidth 32).toInt : ℝ) : EReal) = _
    rw [column_apply, shapeCast_a_a1_apply, hc, iota_single_apply, WordCmp.cmpi_eq_eq_toNat, BitVec.toNat_ofNat, BitVec.toNat_ofNat]
    have := i.isLt
    have := j.isLt
    by_cases h : i = j
    · subst h; simp
    · rw [if_neg h, decide_eq_false]
      · simp
      · intro h'; exact h (Fin.ext (by show i.val = j.val; change j.val % 2 ^ 32 = i.val % 2 ^ 32 at h'; omega))
  exact Row.sum_indicator j _ (fun i => e (ix2 i k)) (by rw [hg, if_pos rfl]) (fun i hi => by rw [hg, if_neg hi])

/-- A sum over a block with a leading unit axis. -/
theorem sum_block {a b : ℕ} (f : (⟨3, ![1, a, b]⟩ : Shape).Idx → EReal) : ∑ i, f i = ∑ r : Fin a, ∑ k : Fin b, f (ix3 (0 : Fin 1) r k) := by
  rw [← Fintype.sum_prod_type' (fun r k => f (ix3 (0 : Fin 1) r k))]
  refine (Fintype.sum_bijective (fun p : Fin a × Fin b => ix3 (0 : Fin 1) p.1 p.2) ⟨fun p q h => ?_, fun i => ⟨(i 1, i 2), ?_⟩⟩ _ _ fun _ => rfl).symm
  · exact Prod.ext (congrFun h 1) (congrFun h 2)
  · refine Eq.trans ?_ (eq_ix3 i).symm
    exact congrArg (fun u : Fin 1 => ix3 u (i 1) (i 2)) (Subsingleton.elim (0 : Fin 1) _)

/-- The sum of the squared differences. -/
theorem sqErr_apply (p z : FVec Ideal S256x32 .f32) :
    sqErr p z = ∑ r : Fin 256, ∑ k : Fin 32, (p (ix2 r k) - z (ix2 r k)) * (p (ix2 r k) - z (ix2 r k)) := by
  unfold sqErr extractAt
  rw [shapeCast_apply _ shapeCasts_S1_S1x1x1 _ (ix1 (0 : Fin 1)) (by decide)]
  refine (Ideal.multiReduction_add_total _ _ reduces_S1x256x32_S1 (fun b => by fin_cases b; rfl) _ _ _).trans ?_
  rw [sum_block]
  refine Finset.sum_congr rfl fun r _ => Finset.sum_congr rfl fun k _ => ?_
  rw [shapeCast_ab_1ab_apply]
  rfl

end Cert.KernelIdeal.Body

end
-- ==== Proof.BlockValue.lean ====
/- The kernel's projections over the extended reals, read at an index: the down projection of a block is a double sum over the
   frame channels and the half's channels, and the up projection picks the quantised rows of the row's own shift. -/
module

public import proofs.«01_k».proof.Proof.QuantValue

@[expose] public section

noncomputable section

namespace Cert.KernelIdeal.Body

open Cert.KernelIdeal Cert.KernelIdeal.Gen Idealize.ShloMosaic Idealize.ShloMosaic.ValueIdx
open scoped BigOperators

/-! ### The down projection -/

theorem rowsOf_apply (x0 : Vec Ideal S8x16x128x128 .f32) (h : Fin 16) (r : Fin 1024) (c : Fin 128) :
    rowsOf x0 h (ix2 r c) = x0 (ix4 ⟨r.val / 128, by omega⟩ h ⟨r.val % 128, by omega⟩ c) := by
  unfold rowsOf
  rw [shapeCast_apply _ _ (ix2 r c) (ix3 (⟨r.val / 128, by omega⟩ : Fin 8) (⟨r.val % 128, by omega⟩ : Fin 128) c) (by
    rw [Shape.rowMajor_val_three, Shape.rowMajor_val_two]
    show (r.val / 128 * 128 + r.val % 128) * 128 + c.val = r.val * 128 + c.val
    omega)]
  rw [shapeCast_apply _ _ (ix3 (⟨r.val / 128, by omega⟩ : Fin 8) (⟨r.val % 128, by omega⟩ : Fin 128) c)
    (ix4 (⟨r.val / 128, by omega⟩ : Fin 8) (0 : Fin 1) (⟨r.val % 128, by omega⟩ : Fin 128) c) (by
    rw [Shape.rowMajor_val_three, Shape.rowMajor_val_four]
    show ((r.val / 128 * 1 + 0) * 128 + r.val % 128) * 128 + c.val = (r.val / 128 * 128 + r.val % 128) * 128 + c.val
    omega)]
  exact View.ld_unit_apply_of _ _ _ _ _ _ fun a => by
    match a with
    | ⟨0, _⟩ => exact (Nat.zero_add _).symm
    | ⟨1, _⟩ => rfl
    | ⟨2, _⟩ => exact (Nat.zero_add _).symm
    | ⟨3, _⟩ => exact (Nat.zero_add _).symm

theorem downDot_apply (s : Fin 2) (x0 : Vec Ideal S8x16x128x128 .f32) (w : Vec Ideal S16x64x128 .f32) (h : Fin 16) (r : Fin 1024)
    (col : Fin 128) : downDot s x0 w h (ix2 r col)
      = ∑ c : Fin 64, x0 (ix4 ⟨r.val / 128, by omega⟩ h ⟨r.val % 128, by omega⟩ ⟨64 * s.val + c.val, by omega⟩) * w (ix3 h c col) := by
  unfold downDot
  refine (product_apply _ _ r col).trans (Finset.sum_congr rfl fun c _ => ?_)
  congr 1
  · refine (slice2_axis1_eq (64 * s.val) (rowsOf x0 h) (slices_half s) r c).trans ?_
    exact rowsOf_apply x0 h r _
  · rw [shapeCast_1ab_ab_apply]
    exact View.ld_unit_apply_of _ _ _ _ _ _ fun a => by
      match a with
      | ⟨0, _⟩ => rfl
      | ⟨1, _⟩ => exact (Nat.zero_add _).symm
      | ⟨2, _⟩ => exact (Nat.zero_add _).symm

theorem downAcc_eq (s : Fin 2) (x0 : Vec Ideal S8x16x128x128 .f32) (w : Vec Ideal S16x64x128 .f32) (i : S1024x128.Idx) :
    ∀ n, downAcc s x0 w n i = ∑ j ∈ Finset.range n, downDot s x0 w (Fin.ofNat 16 j) i
  | 0 => by
    show Ideal.ofBits .f32 0x00000000#32 = _
    rw [Ideal.ofBits_zero_f32, Finset.range_zero, Finset.sum_empty]
  | n + 1 => by
    rw [Finset.sum_range_succ, ← downAcc_eq s x0 w i n]
    rfl

theorem down_apply (s : Fin 2) (x0 : Vec Ideal S8x16x128x128 .f32) (w : Vec Ideal S16x64x128 .f32) (b : Fin 8) (tt : Fin 32) (o : Fin 4)
    (col : Fin 128) : down s x0 w (ix4 b tt o col)
      = ∑ h : Fin 16, ∑ c : Fin 64, x0 (ix4 b h ⟨4 * tt.val + o.val, by omega⟩ ⟨64 * s.val + c.val, by omega⟩) * w (ix3 h c col) := by
  unfold down
  rw [shapeCast_apply _ _ (ix4 b tt o col) (ix2 (⟨(b.val * 32 + tt.val) * 4 + o.val, by omega⟩ : Fin 1024) col) (by
    rw [Shape.rowMajor_val_two, Shape.rowMajor_val_four]
    rfl)]
  rw [downAcc_eq, Finset.sum_range]
  refine Finset.sum_congr rfl fun h _ => ?_
  rw [show Fin.ofNat 16 h.val = h from Fin.ext (Nat.mod_eq_of_lt h.isLt), downDot_apply]
  refine Finset.sum_congr rfl fun c _ => ?_
  have e1 : (⟨((b.val * 32 + tt.val) * 4 + o.val) / 128, by omega⟩ : Fin 8) = b := Fin.ext (by show _ / _ = b.val; omega)
  have e2 : (⟨((b.val * 32 + tt.val) * 4 + o.val) % 128, by omega⟩ : Fin 128) = ⟨4 * tt.val + o.val, by omega⟩ :=
    Fin.ext (by show _ % _ = 4 * tt.val + o.val; omega)
  dsimp only
  rw [e1, e2]

theorem group_apply (o : Fin 4) (a : FVec Ideal S8x32x4x128 .f32) (r : Fin 256) (k : Fin 32) :
    group o a (ix2 r k) = a (ix4 ⟨r.val / 32, by omega⟩ ⟨r.val % 32, by omega⟩ o ⟨32 * o.val + k.val, by omega⟩) := by
  unfold group
  rw [shapeCast_apply _ _ (ix2 r k) (ix3 (⟨r.val / 32, by omega⟩ : Fin 8) (⟨r.val % 32, by omega⟩ : Fin 32) k) (by
    rw [Shape.rowMajor_val_three, Shape.rowMajor_val_two]
    show (r.val / 32 * 32 + r.val % 32) * 32 + k.val = r.val * 32 + k.val
    omega)]
  rw [shapeCast_apply _ _ (ix3 (⟨r.val / 32, by omega⟩ : Fin 8) (⟨r.val % 32, by omega⟩ : Fin 32) k)
    (ix4 (⟨r.val / 32, by omega⟩ : Fin 8) (⟨r.val % 32, by omega⟩ : Fin 32) (0 : Fin 1) k) (by
    rw [Shape.rowMajor_val_three, Shape.rowMajor_val_four]
    show ((r.val / 32 * 32 + r.val % 32) * 1 + 0) * 32 + k.val = (r.val / 32 * 32 + r.val % 32) * 32 + k.val
    omega)]
  exact extractStridedSlice_apply _ _ _ _ _ fun a => by
    match a with
    | ⟨0, _⟩ => exact (Nat.zero_add _).symm
    | ⟨1, _⟩ => exact (Nat.zero_add _).symm
    | ⟨2, _⟩ => rfl
    | ⟨3, _⟩ => rfl

/-- The weights of shift parity `s`. -/
def wOf {α : Type} (x1 x2 : α) : Fin 2 → α
  | 0 => x1
  | 1 => x2

theorem zrows_apply (x0 : Vec Ideal S8x16x128x128 .f32) (x1 x2 : Vec Ideal S16x64x128 .f32) (o : Fin 4) (s : Fin 2) (r : Fin 256) (k : Fin 32) :
    zrows x0 x1 x2 o s (ix2 r k) = ∑ h : Fin 16, ∑ c : Fin 64,
      x0 (ix4 ⟨r.val / 32, by omega⟩ h ⟨4 * (r.val % 32) + o.val, by omega⟩ ⟨64 * s.val + c.val, by omega⟩)
        * wOf x1 x2 s (ix3 h c ⟨32 * o.val + k.val, by omega⟩) := by
  match s with
  | 0 => exact (group_apply o _ r k).trans (down_apply 0 x0 x1 _ _ _ _)
  | 1 => exact (group_apply o _ r k).trans (down_apply 1 x0 x2 _ _ _ _)

/-! ### The up projection -/

theorem zeros_apply (S : Shape) (i : S.Idx) : (zeros S : FVec Ideal S .f32) i = (0 : EReal) := Ideal.ofBits_zero_f32

section
variable (b : Fin 8) (tt : Fin 32) (col : Fin 128)

/-- The row of the packed matrix under a cast by batch and time. -/
theorem unpack_apply {α : Type} (x : S256x128.Idx → α) (u : Fin 1) :
    shapeCast S8x32x1x128 x shapeCasts_S256x128_S8x32x1x128 (ix4 b tt u col) = x (ix2 (⟨b.val * 32 + tt.val, by omega⟩ : Fin 256) col) :=
  shapeCast_apply _ _ _ _ (by
    rw [Shape.rowMajor_val_two, Shape.rowMajor_val_four]
    show (b.val * 32 + tt.val) * 128 + col.val = ((b.val * 32 + tt.val) * 1 + u.val) * 128 + col.val
    omega)

end

/-- A piece of a concatenation along the columns. -/
theorem columns_apply {n : ℕ} (xs : List ((s : Shape) × (s.Idx → EReal))) (h : Shape.Concatenates (xs.map (·.1)) S256x128 1)
    (r : Fin 256) (col : Fin 128) (k : ℕ) (hk : k < xs.length) (x : (⟨2, ![256, n]⟩ : Shape).Idx → EReal) (hx : xs[k] = ⟨⟨2, ![256, n]⟩, x⟩)
    (pre : ℕ) (hpre : (((xs.take k).map (·.1)).map fun s => if h : s.rank = S256x128.rank then s.size ((1 : Fin S256x128.rank).cast h.symm) else 0).sum = pre)
    (i : Fin n) (hi : pre + i.val = col.val) : concatenate S256x128 1 xs h (ix2 r col) = x (ix2 r i) :=
  concatenate_apply_piece 1 xs h (ix2 r col) k hk _ x hx rfl pre hpre (ix2 r i)
    (fun b hb => by
      match b with
      | ⟨0, _⟩ => rfl
      | ⟨1, _⟩ => exact absurd rfl hb) hi

theorem placed_apply (o : Fin 4) (p : FVec Ideal S256x32 .f32) (b : Fin 8) (tt : Fin 32) (u : Fin 1) (col : Fin 128) :
    placed o p (ix4 b tt u col)
      = if col.val / 32 = o.val then p (ix2 ⟨b.val * 32 + tt.val, by omega⟩ ⟨col.val % 32, by omega⟩) else 0 := by
  match o with
  | 0 =>
    rw [placed, unpack_apply]
    by_cases hc : col.val / 32 = 0
    · rw [if_pos (show col.val / 32 = (0 : Fin 4).val from hc)]
      exact columns_apply (n := 32) _ _ _ _ 0 (Nat.le_of_ble_eq_true rfl) p rfl 0 rfl _ (by show 0 + col.val % 32 = col.val; omega)
    · rw [if_neg (show ¬col.val / 32 = (0 : Fin 4).val from hc)]
      exact (columns_apply (n := 96) _ _ _ _ 1 (Nat.le_of_ble_eq_true rfl) (zeros S256x96 : FVec Ideal S256x96 .f32) rfl 32 rfl ⟨col.val - 32, by omega⟩ (by show 32 + (col.val - 32) = col.val; omega)).trans (zeros_apply _ _)
  | 1 =>
    rw [placed, unpack_apply]
    by_cases hc : col.val / 32 = 1
    · rw [if_pos (show col.val / 32 = (1 : Fin 4).val from hc)]
      exact columns_apply (n := 32) _ _ _ _ 1 (Nat.le_of_ble_eq_true rfl) p rfl 32 rfl _ (by show 32 + col.val % 32 = col.val; omega)
    · rw [if_neg (show ¬col.val / 32 = (1 : Fin 4).val from hc)]
      by_cases hl : col.val < 32
      · exact (columns_apply (n := 32) _ _ _ _ 0 (Nat.le_of_ble_eq_true rfl) (zeros S256x32 : FVec Ideal S256x32 .f32) rfl 0 rfl ⟨col.val, by omega⟩ (by show 0 + col.val = col.val; omega)).trans (zeros_apply _ _)
      · exact (columns_apply (n := 64) _ _ _ _ 2 (Nat.le_of_ble_eq_true rfl) (zeros S256x64 : FVec Ideal S256x64 .f32) rfl 64 rfl ⟨col.val - 64, by omega⟩ (by show 64 + (col.val - 64) = col.val; omega)).trans (zeros_apply _ _)
  | 2 =>
    rw [placed, unpack_apply]
    by_cases hc : col.val / 32 = 2
    · rw [if_pos (show col.val / 32 = (2 : Fin 4).val from hc)]
      exact columns_apply (n := 32) _ _ _ _ 1 (Nat.le_of_ble_eq_true rfl) p rfl 64 rfl _ (by show 64 + col.val % 32 = col.val; omega)
    · rw [if_neg (show ¬col.val / 32 = (2 : Fin 4).val from hc)]
      by_cases hl : col.val < 64
      · exact (columns_apply (n := 64) _ _ _ _ 0 (Nat.le_of_ble_eq_true rfl) (zeros S256x64 : FVec Ideal S256x64 .f32) rfl 0 rfl ⟨col.val, by omega⟩ (by show 0 + col.val = col.val; omega)).trans (zeros_apply _ _)
      · exact (columns_apply (n := 32) _ _ _ _ 2 (Nat.le_of_ble_eq_true rfl) (zeros S256x32 : FVec Ideal S256x32 .f32) rfl 96 rfl ⟨col.val - 96, by omega⟩ (by show 96 + (col.val - 96) = col.val; omega)).trans (zeros_apply _ _)
  | 3 =>
    rw [placed, unpack_apply]
    by_cases hc : col.val / 32 = 3
    · rw [if_pos (show col.val / 32 = (3 : Fin 4).val from hc)]
      exact columns_apply (n := 32) _ _ _ _ 1 (Nat.le_of_ble_eq_true rfl) p rfl 96 rfl _ (by show 96 + col.val % 32 = col.val; omega)
    · rw [if_neg (show ¬col.val / 32 = (3 : Fin 4).val from hc)]
      exact (columns_apply (n := 96) _ _ _ _ 0 (Nat.le_of_ble_eq_true rfl) (zeros S256x96 : FVec Ideal S256x96 .f32) rfl 0 rfl ⟨col.val, by omega⟩ (by show 0 + col.val = col.val; omega)).trans (zeros_apply _ _)

theorem stacked_apply (p : Fin 4 → FVec Ideal S256x32 .f32) (r : Fin 1024) (col : Fin 128) :
    stacked p (ix2 r col) = if col.val / 32 = r.val % 4 then
      p ⟨r.val % 4, by omega⟩ (ix2 ⟨r.val / 4, by omega⟩ ⟨col.val % 32, by omega⟩) else 0 := by
  unfold stacked
  rw [shapeCast_apply _ _ (ix2 r col) (ix4 (⟨r.val / 128, by omega⟩ : Fin 8) (⟨r.val % 128 / 4, by omega⟩ : Fin 32) (⟨r.val % 4, by omega⟩ : Fin 4) col) (by
    rw [Shape.rowMajor_val_two, Shape.rowMajor_val_four]
    show ((r.val / 128 * 32 + r.val % 128 / 4) * 4 + r.val % 4) * 128 + col.val = r.val * 128 + col.val
    omega)]
  refine (concatenate_ofFn_unit_apply (2 : Fin S8x32x4x128.rank) (s₁ := S8x32x1x128) (fun o : Fin 4 => placed o (p o))
    concatenates_S8x32x1x128_S8x32x1x128_S8x32x1x128_S8x32x1x128_S8x32x4x128_d2 rfl rfl _ ⟨r.val % 4, by omega⟩ rfl
    (ix4 (⟨r.val / 128, by omega⟩ : Fin 8) (⟨r.val % 128 / 4, by omega⟩ : Fin 32) (0 : Fin 1) col) ?_).trans ?_
  · intro b hb
    match b with
    | ⟨0, _⟩ => rfl
    | ⟨1, _⟩ => rfl
    | ⟨2, _⟩ => exact absurd rfl hb
    | ⟨3, _⟩ => rfl
  · rw [placed_apply]
    have e : (⟨r.val / 128 * 32 + r.val % 128 / 4, by omega⟩ : Fin 256) = ⟨r.val / 4, by omega⟩ := Fin.ext (by show _ + _ = r.val / 4; omega)
    dsimp only
    rw [e]

/-- A sum over the packed channels, of which only group `o`'s count. -/
theorem sum_group (o : Fin 4) (f : Fin 32 → EReal) (g : Fin 128 → EReal) :
    ∑ col : Fin 128, (if col.val / 32 = o.val then f ⟨col.val % 32, by omega⟩ else 0) * g col = ∑ k : Fin 32, f k * g ⟨32 * o.val + k.val, by omega⟩ := by
  rw [← Equiv.sum_comp (finProdFinEquiv (m := 4) (n := 32)), Fintype.sum_prod_type, Finset.sum_eq_single o]
  · refine Finset.sum_congr rfl fun k _ => ?_
    have hv : (finProdFinEquiv (o, k)).val = k.val + 32 * o.val := rfl
    rw [if_pos (by rw [hv]; omega)]
    congr 2
    · exact Fin.ext (by show (finProdFinEquiv (o, k)).val % 32 = k.val; rw [hv]; omega)
    · exact Fin.ext (by rw [hv]; show _ = 32 * o.val + k.val; omega)
  · intro o' _ ho
    refine Finset.sum_eq_zero fun k _ => ?_
    have hv : (finProdFinEquiv (o', k)).val = k.val + 32 * o'.val := rfl
    have : o'.val ≠ o.val := fun h => ho (Fin.ext h)
    rw [if_neg (by rw [hv]; omega), zero_mul]
  · exact fun h => absurd (Finset.mem_univ o) h

/-- A half of the frame channel's rows. -/
theorem half_apply (p : Fin 4 → FVec Ideal S256x32 .f32) (x : Vec Ideal S16x128x64 .f32) (h : Fin 16) (r : Fin 1024) (c : Fin 64) :
    matmul dot_S1024x128_S128x64_S1024x64_1_0_0_1_n_n none (stacked p)
      (shapeCast S128x64 (View.ld x (Rect.unit ![h.val, 0, 0] S1x128x64.size (inb_up h))) shapeCasts_S1x128x64_S128x64 : FVec Ideal S128x64 .f32)
      (constant S1024x64 .f32 0x00000000#32) (ix2 r c)
      = ∑ k : Fin 32, p ⟨r.val % 4, by omega⟩ (ix2 ⟨r.val / 4, by omega⟩ k) * x (ix3 h ⟨32 * (r.val % 4) + k.val, by omega⟩ c) := by
  refine (product_apply _ _ r c).trans ?_
  refine Eq.trans (Finset.sum_congr rfl fun col _ => ?_) (sum_group ⟨r.val % 4, by omega⟩
    (fun k => p ⟨r.val % 4, by omega⟩ (ix2 ⟨r.val / 4, by omega⟩ k)) (fun col => x (ix3 h col c)))
  rw [stacked_apply]
  congr 1
  rw [shapeCast_1ab_ab_apply]
  exact View.ld_unit_apply_of _ _ _ _ _ _ fun a => by
    match a with
    | ⟨0, _⟩ => rfl
    | ⟨1, _⟩ => exact (Nat.zero_add _).symm
    | ⟨2, _⟩ => exact (Nat.zero_add _).symm

theorem outRow_apply (p : Fin 4 → Fin 2 → FVec Ideal S256x32 .f32) (x3 x4 : Vec Ideal S16x128x64 .f32) (h : Fin 16) (b : Fin 8) (u : Fin 1)
    (w : Fin 128) (c : Fin 128) : outRow (stacked fun o => p o 0) (stacked fun o => p o 1) x3 x4 h (ix4 b u w c)
      = ∑ k : Fin 32, p ⟨w.val % 4, by omega⟩ ⟨c.val / 64, by omega⟩ (ix2 ⟨b.val * 32 + w.val / 4, by omega⟩ k)
        * wOf x3 x4 ⟨c.val / 64, by omega⟩ (ix3 h ⟨32 * (w.val % 4) + k.val, by omega⟩ ⟨c.val % 64, by omega⟩) := by
  have e1 : (⟨(b.val * 128 + w.val) % 4, by omega⟩ : Fin 4) = ⟨w.val % 4, by omega⟩ := Fin.ext (by show _ % _ = w.val % 4; omega)
  have e2 : (⟨(b.val * 128 + w.val) / 4, by omega⟩ : Fin 256) = ⟨b.val * 32 + w.val / 4, by omega⟩ := Fin.ext (by show _ / _ = b.val * 32 + w.val / 4; omega)
  have e3 : (b.val * 128 + w.val) % 4 = w.val % 4 := by omega
  unfold outRow
  rw [shapeCast_apply _ _ (ix4 b u w c) (ix3 b w c) (by
    rw [Shape.rowMajor_val_three, Shape.rowMajor_val_four]
    show (b.val * 128 + w.val) * 128 + c.val = ((b.val * 1 + u.val) * 128 + w.val) * 128 + c.val
    omega)]
  rw [shapeCast_apply _ _ (ix3 b w c) (ix2 (⟨b.val * 128 + w.val, by omega⟩ : Fin 1024) c) (by
    rw [Shape.rowMajor_val_three, Shape.rowMajor_val_two]
    rfl)]
  by_cases hc : c.val < 64
  · have hs : (⟨c.val / 64, by omega⟩ : Fin 2) = 0 := Fin.ext (by show c.val / 64 = 0; omega)
    have hm : (⟨c.val % 64, by omega⟩ : Fin 64) = ⟨c.val, hc⟩ := Fin.ext (by show c.val % 64 = c.val; omega)
    refine (concatenate_pair_apply_left (t := S1024x128) (s₁ := S1024x64) (s₂ := S1024x64) 1 _ _ _ _ rfl (ix2 (⟨b.val * 128 + w.val, by omega⟩ : Fin 1024) (⟨c.val, hc⟩ : Fin 64)) (fun a => by
      match a with
      | ⟨0, _⟩ => rfl
      | ⟨1, _⟩ => rfl)).trans ?_
    rw [half_apply, hs, hm]
    dsimp only
    rw [e1, e2]
    simp only [e3]
    rfl
  · have hs : (⟨c.val / 64, by omega⟩ : Fin 2) = 1 := Fin.ext (by show c.val / 64 = 1; omega)
    refine (concatenate_pair_apply_right (t := S1024x128) (s₁ := S1024x64) (s₂ := S1024x64) 1 _ _ _ _ rfl rfl (ix2 (⟨b.val * 128 + w.val, by omega⟩ : Fin 1024) (⟨c.val % 64, by omega⟩ : Fin 64)) (fun a ha => by
      match a with
      | ⟨0, _⟩ => rfl
      | ⟨1, _⟩ => exact absurd rfl ha) (by show c.val % 64 + 64 = c.val; omega)).trans ?_
    rw [half_apply, hs]
    dsimp only
    rw [e1, e2]
    simp only [e3]
    rfl

end Cert.KernelIdeal.Body

end
-- ==== Proof.PointValue.lean ====
/- What one grid point of the kernel stores, over the extended reals and read at an index: the quantiser's row functions on the
   point's rows. -/
module

public import proofs.«01_k».proof.Proof.BlockValue

@[expose] public section

noncomputable section

namespace Cert.KernelIdeal.Body

open Cert.KernelIdeal Cert.KernelIdeal.Gen Idealize.ShloMosaic Idealize.ShloMosaic.ValueIdx
open scoped BigOperators

/-- Codebook `q`, by row and coordinate. -/
abbrev bookAt (x5 : Vec Ideal S8x1024x32 .f32) (q : Fin 8) : Fin 1024 → Fin 32 → EReal := fun j k => x5 (ix3 q j k)

section
variable (x0 : Vec Ideal S8x16x128x128 .f32) (x1 x2 : Vec Ideal S16x64x128 .f32) (x3 x4 : Vec Ideal S16x128x64 .f32)
  (x5 : Vec Ideal S8x1024x32 .f32)

theorem codes_apply (o : Fin 4) (s : Fin 2) (r : Fin 256) : codes x0 x1 x2 (bookFn x5) (normFn x5) o s (ix1 r)
    = BitVec.ofNat 32 (Row.code (rowOf (zrows x0 x1 x2 o s) r) (bookAt x5 (quant o s))).val := by
  unfold codes
  rw [codeOf_apply]
  refine congrArg (fun d => BitVec.ofNat 32 (Row.first d).val) (funext fun j => ?_)
  refine (dist_apply _ _ _ (fun j => ?_) r j).trans ?_
  · rw [norms_apply]
    exact Finset.sum_congr rfl fun k _ => by rw [book_apply]
  · have e1 : rowOf (rowsNormed (zrows x0 x1 x2 o s)) r = Row.unit (rowOf (zrows x0 x1 x2 o s) r) := funext fun k => rowsNormed_apply _ r k
    have e2 : rowOf (book (bookFn x5) (quant o s)) j = Row.unit (bookAt x5 (quant o s) j) := funext fun k => book_apply x5 _ j k
    rw [e1, e2]

theorem zq_apply (o : Fin 4) (s : Fin 2) (r : Fin 256) (k : Fin 32) : zq x0 x1 x2 (bookFn x5) (normFn x5) o s (ix2 r k)
    = Row.quant (rowOf (zrows x0 x1 x2 o s) r) (bookAt x5 (quant o s)) k := by
  unfold zq
  rw [pick_apply _ _ r k _ (codes_apply x0 x1 x2 x5 o s r), book_apply]
  rfl

theorem err_apply (o : Fin 4) (s : Fin 2) : err x0 x1 x2 (bookFn x5) (normFn x5) o s
    = ∑ r : Fin 256, Row.err (rowOf (zrows x0 x1 x2 o s) r) (bookAt x5 (quant o s)) := by
  unfold err
  rw [sqErr_apply]
  exact Finset.sum_congr rfl fun r _ => Finset.sum_congr rfl fun k _ => by rw [zq_apply]

/-- The error of quantiser `q` at the point. -/
def errOf (q : Fin 8) : EReal :=
  ∑ r : Fin 256, Row.err (rowOf (zrows x0 x1 x2 ⟨q.val / 2, by omega⟩ ⟨q.val % 2, by omega⟩) r) (bookAt x5 q)

theorem err_eq (o : Fin 4) (s : Fin 2) (q : Fin 8) (hq : q = quant o s) : err x0 x1 x2 (bookFn x5) (normFn x5) o s = errOf x0 x1 x2 x5 q := by
  subst hq
  rw [err_apply]
  unfold errOf
  have e1 : (⟨(quant o s).val / 2, by omega⟩ : Fin 4) = o := Fin.ext (by show (2 * o.val + s.val) / 2 = o.val; omega)
  have e2 : (⟨(quant o s).val % 2, by omega⟩ : Fin 2) = s := Fin.ext (by show (2 * o.val + s.val) % 2 = s.val; omega)
  rw [e1, e2]

theorem errSum_eq : errSum x0 x1 x2 (bookFn x5) (normFn x5) = ∑ q : Fin 8, errOf x0 x1 x2 x5 q := by
  unfold errSum
  rw [err_eq x0 x1 x2 x5 0 0 0 rfl, err_eq x0 x1 x2 x5 0 1 1 rfl, err_eq x0 x1 x2 x5 1 0 2 rfl, err_eq x0 x1 x2 x5 1 1 3 rfl,
    err_eq x0 x1 x2 x5 2 0 4 rfl, err_eq x0 x1 x2 x5 2 1 5 rfl, err_eq x0 x1 x2 x5 3 0 6 rfl, err_eq x0 x1 x2 x5 3 1 7 rfl,
    Fin.sum_univ_eight]
  show Ideal.ofBits .f32 0x00000000#32 + _ + _ + _ + _ + _ + _ + _ + _ = _
  rw [Ideal.ofBits_zero_f32, zero_add]

theorem lossNext_apply (l : Vec Ideal S1x1 .f32) (i : S1x1.Idx) :
    lossNext x0 x1 x2 (bookFn x5) (normFn x5) l i = l i + ∑ q : Fin 8, errOf x0 x1 x2 x5 q := by
  unfold lossNext
  rw [addf_apply, shapeCast_apply l shapeCasts_S1x1_S1x1 i i rfl]
  exact congrArg (fun e => l i + e) (errSum_eq x0 x1 x2 x5)

/-! ### The stored blocks -/

/-- The point's block of the frames. -/
def outFn : Vec Ideal S8x16x128x128 .f32 := fun i =>
  ∑ k : Fin 32, Row.quant (rowOf (zrows x0 x1 x2 ⟨(i 2).val % 4, by omega⟩ ⟨(i 3).val / 64, by have : (i 3).val < 128 := (i 3).isLt; omega⟩)
      ⟨(i 0).val * 32 + (i 2).val / 4, by
        have : (i 0).val < 8 := (i 0).isLt
        have : (i 2).val < 128 := (i 2).isLt
        omega⟩)
      (bookAt x5 (quant ⟨(i 2).val % 4, by omega⟩ ⟨(i 3).val / 64, by have : (i 3).val < 128 := (i 3).isLt; omega⟩)) k
    * wOf x3 x4 ⟨(i 3).val / 64, by have : (i 3).val < 128 := (i 3).isLt; omega⟩
      (ix3 (n0 := 16) (n1 := 128) (n2 := 64) (i 1) ⟨32 * ((i 2).val % 4) + k.val, by omega⟩ ⟨(i 3).val % 64, by omega⟩)

theorem canon_outPieces (y : S8x16x128x128.Idx) :
    View.canon (outPieces x0 x1 x2 x3 x4 (bookFn x5) (normFn x5)) y = outFn x0 x1 x2 x3 x4 x5 y := by
  refine View.canon_apply_of_pieces (outFn x0 x1 x2 x3 x4 x5) _ ?_ y ?_
  · intro p hp
    obtain ⟨q, rfl⟩ := List.mem_ofFn.mp hp
    intro x
    obtain ⟨b, u, w, c, rfl⟩ : ∃ b u w c, x = ix4 (n0 := 8) (n1 := 1) (n2 := 128) (n3 := 128) b u w c := ⟨x 0, x 1, x 2, x 3, (eq_ix4 x)⟩
    refine (outRow_apply (fun o s => zq x0 x1 x2 (bookFn x5) (normFn x5) o s) x3 x4 q.rev b u w c).trans ?_
    have e : (Rect.unit (s := S8x16x128x128) ![0, q.rev.val, 0, 0] S8x1x128x128.size (inb_frame q.rev)).emb (ix4 b u w c) = ix4 b q.rev w c := by
      funext a; apply Fin.ext
      refine (Rect.idx_unit_val _ _ _ _ a).trans ?_
      match a with
      | ⟨0, _⟩ => exact Nat.zero_add _
      | ⟨1, _⟩ => show q.rev.val + u.val = q.rev.val; omega
      | ⟨2, _⟩ => exact Nat.zero_add _
      | ⟨3, _⟩ => exact Nat.zero_add _
    refine Eq.trans ?_ (congrArg (outFn x0 x1 x2 x3 x4 x5) e).symm
    refine Finset.sum_congr rfl fun k _ => ?_
    rw [zq_apply]
  · obtain ⟨q, hq⟩ : ∃ q : Fin 16, q.rev.val = (y 1).val := ⟨(y 1 : Fin 16).rev, congrArg Fin.val (Fin.rev_rev (y 1 : Fin 16))⟩
    refine ⟨_, List.mem_ofFn.mpr ⟨q, rfl⟩, ?_⟩
    refine (Rect.mem_set_unit (inb := inb_frame q.rev)).mpr fun a => ?_
    match a with
    | ⟨0, _⟩ => exact ⟨Nat.zero_le _, by have := (y 0).isLt; show _ < 0 + 8; rw [Nat.zero_add]; exact this⟩
    | ⟨1, _⟩ => exact ⟨hq.le, lt_of_le_of_lt hq.ge (Nat.lt_succ_self _)⟩
    | ⟨2, _⟩ => exact ⟨Nat.zero_le _, by have := (y 2).isLt; show _ < 0 + 128; rw [Nat.zero_add]; exact this⟩
    | ⟨3, _⟩ => exact ⟨Nat.zero_le _, by have := (y 3).isLt; show _ < 0 + 128; rw [Nat.zero_add]; exact this⟩

/-- The point's codes. -/
def codeFn : Vec Ideal S1x8x8x32 .i32 := fun i =>
  BitVec.ofNat 32 (Row.code (rowOf (zrows x0 x1 x2 ⟨(i 1).val / 2, by have : (i 1).val < 8 := (i 1).isLt; omega⟩ ⟨(i 1).val % 2, by omega⟩)
      ⟨(i 2).val * 32 + (i 3).val, by
        have : (i 2).val < 8 := (i 2).isLt
        have : (i 3).val < 32 := (i 3).isLt
        omega⟩)
      (bookAt x5 (i 1))).val

theorem codeRow_apply (o : Fin 4) (s : Fin 2) (u v : Fin 1) (b : Fin 8) (tt : Fin 32) :
    codeRow x0 x1 x2 (bookFn x5) (normFn x5) o s (ix4 u v b tt)
      = BitVec.ofNat 32 (Row.code (rowOf (zrows x0 x1 x2 o s) ⟨b.val * 32 + tt.val, by omega⟩) (bookAt x5 (quant o s))).val := by
  unfold codeRow
  rw [shapeCast_apply _ _ (ix4 u v b tt) (ix2 b tt) (by
    rw [Shape.rowMajor_val_two, Shape.rowMajor_val_four]
    show b.val * 32 + tt.val = ((u.val * 1 + v.val) * 8 + b.val) * 32 + tt.val
    omega)]
  rw [shapeCast_apply _ _ (ix2 b tt) (ix1 (⟨b.val * 32 + tt.val, by omega⟩ : Fin 256)) (by
    rw [Shape.rowMajor_val_two, Shape.rowMajor_val_one]
    rfl)]
  exact codes_apply x0 x1 x2 x5 o s _

/-- The stores of the codes, quantiser by quantiser. -/
theorem codePieces_eq : codePieces x0 x1 x2 (bookFn x5) (normFn x5)
    = List.ofFn fun q : Fin 8 => (⟨Rect.unit ![0, q.rev.val, 0, 0] S1x1x8x32.size (inb_code q.rev),
        codeRow x0 x1 x2 (bookFn x5) (normFn x5) ⟨q.rev.val / 2, by omega⟩ ⟨q.rev.val % 2, by omega⟩⟩ : View.Piece (Elt Ideal) S1x8x8x32 .i32) := by
  simp only [List.ofFn_succ, List.ofFn_zero]
  rfl

theorem canon_codePieces (y : S1x8x8x32.Idx) :
    View.canon (codePieces x0 x1 x2 (bookFn x5) (normFn x5)) y = codeFn x0 x1 x2 x5 y := by
  rw [codePieces_eq]
  refine View.canon_apply_of_pieces (codeFn x0 x1 x2 x5) _ ?_ y ?_
  · intro p hp
    obtain ⟨q, rfl⟩ := List.mem_ofFn.mp hp
    intro x
    obtain ⟨u, v, b, tt, rfl⟩ : ∃ u v b tt, x = ix4 (n0 := 1) (n1 := 1) (n2 := 8) (n3 := 32) u v b tt := ⟨x 0, x 1, x 2, x 3, (eq_ix4 x)⟩
    have e : (Rect.unit (s := S1x8x8x32) ![0, q.rev.val, 0, 0] S1x1x8x32.size (inb_code q.rev)).emb (ix4 u v b tt) = ix4 u q.rev b tt := by
      funext a; apply Fin.ext
      refine (Rect.idx_unit_val _ _ _ _ a).trans ?_
      match a with
      | ⟨0, _⟩ => exact Nat.zero_add _
      | ⟨1, _⟩ => show q.rev.val + v.val = q.rev.val; omega
      | ⟨2, _⟩ => exact Nat.zero_add _
      | ⟨3, _⟩ => exact Nat.zero_add _
    have g := codeRow_apply x0 x1 x2 x5 ⟨q.rev.val / 2, by omega⟩ ⟨q.rev.val % 2, by omega⟩ u v b tt
    have eq : quant ⟨q.rev.val / 2, by omega⟩ ⟨q.rev.val % 2, by omega⟩ = q.rev := Fin.ext (by show 2 * (q.rev.val / 2) + q.rev.val % 2 = q.rev.val; omega)
    rw [eq] at g
    have g2 : codeRow x0 x1 x2 (bookFn x5) (normFn x5) ⟨q.rev.val / 2, by omega⟩ ⟨q.rev.val % 2, by omega⟩ (ix4 u v b tt) = codeFn x0 x1 x2 x5 (ix4 u q.rev b tt) := g
    have g3 := g2.trans (congrArg (codeFn x0 x1 x2 x5) e).symm
    generalize codeRow x0 x1 x2 (bookFn x5) (normFn x5) ⟨q.rev.val / 2, by omega⟩ ⟨q.rev.val % 2, by omega⟩ = w at g3 ⊢
    exact g3
  · obtain ⟨q, hq⟩ : ∃ q : Fin 8, q.rev.val = (y 1).val := ⟨(y 1 : Fin 8).rev, congrArg Fin.val (Fin.rev_rev (y 1 : Fin 8))⟩
    refine ⟨_, List.mem_ofFn.mpr ⟨q, rfl⟩, ?_⟩
    refine (Rect.mem_set_unit (inb := inb_code q.rev)).mpr fun a => ?_
    match a with
    | ⟨0, _⟩ => exact ⟨Nat.zero_le _, by have := (y 0).isLt; show _ < 0 + 1; rw [Nat.zero_add]; exact this⟩
    | ⟨1, _⟩ => exact ⟨hq.le, lt_of_le_of_lt hq.ge (Nat.lt_succ_self _)⟩
    | ⟨2, _⟩ => exact ⟨Nat.zero_le _, by have := (y 2).isLt; show _ < 0 + 8; rw [Nat.zero_add]; exact this⟩
    | ⟨3, _⟩ => exact ⟨Nat.zero_le _, by have := (y 3).isLt; show _ < 0 + 32; rw [Nat.zero_add]; exact this⟩

end

end Cert.KernelIdeal.Body

end
-- ==== Proof.Points.lean ====
/- The staging contents after each grid point, in the body's vocabulary: the first point normalises the codebooks, every point
   stores its block, its codes and the loss so far. -/
module

public import proofs.«01_k».proof.Proof.Body

@[expose] public section

set_option maxRecDepth 16384

noncomputable section

namespace Cert.KernelIdeal.Body

open Cert.KernelIdeal Cert.KernelIdeal.Gen Idealize.ShloMosaic Idealize.ShloMosaic.TcCoe Idealize.SL.Sem Idealize.ShloMosaic.Tactic

variable {F : FTy → Type} [FloatOps F]
variable (m : (ℓ : Loc nD τ sig) → Buf (Elt F) ℓ)

theorem later_out (c : Dev nD) (t : Fin cfg0.N) (h : ¬t.val % 4 = 0) :
    (outsAt0 m c t.val t.isLt).1 = View.canon (outPieces (iblk m c 0 t) (iblk m c 1 t) (iblk m c 2 t) (iblk m c 3 t) (iblk m c 4 t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) := by
  rw [outsAt0_B m c t h h]
  dsimp only
  unfold out0_B_6
  refine (View.read_writes_eq_canon _ _ _ (by apply cover0_B_6)).trans ?_
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (Memref.isWhole_whole _).read_unread]
  rfl

theorem later_code (c : Dev nD) (t : Fin cfg0.N) (h : ¬t.val % 4 = 0) :
    (outsAt0 m c t.val t.isLt).2.1 = View.canon (codePieces (iblk m c 0 t) (iblk m c 1 t) (iblk m c 2 t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) := by
  rw [outsAt0_B m c t h h]
  dsimp only
  unfold out0_B_7
  refine (View.read_writes_eq_canon _ _ _ (by apply cover0_B_7)).trans ?_
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (Memref.isWhole_whole _).read_unread]
  rfl

theorem later_loss (c : Dev nD) (t : Fin cfg0.N) (h : ¬t.val % 4 = 0) :
    (outsAt0 m c t.val t.isLt).2.2.1 = lossNext (iblk m c 0 t) (iblk m c 1 t) (iblk m c 2 t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2
      (outsAt0 m c (t.val - 1) (Nat.lt_of_le_of_lt (Nat.sub_le _ _) t.isLt)).2.2.1 := by
  rw [outsAt0_B m c t h h]
  dsimp only
  unfold out0_B_8
  refine (View.read_writes_eq_canon _ _ _ (by apply cover0_B_8)).trans ?_
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_8 t).read_unread, (Memref.isWhole_whole _).read_unread]
  refine (View.canon_unit_zero (by funext a; fin_cases a <;> rfl) _ _).trans ?_
  rw [View.ld_unit_zero (by funext a; fin_cases a <;> rfl)]
  rfl

theorem later_book (c : Dev nD) (t : Fin cfg0.N) (h : ¬t.val % 4 = 0) :
    (outsAt0 m c t.val t.isLt).2.2.2.1 = (outsAt0 m c (t.val - 1) (Nat.lt_of_le_of_lt (Nat.sub_le _ _) t.isLt)).2.2.2.1 := by
  rw [outsAt0_B m c t h h]
  rfl

theorem later_norm (c : Dev nD) (t : Fin cfg0.N) (h : ¬t.val % 4 = 0) :
    (outsAt0 m c t.val t.isLt).2.2.2.2 = (outsAt0 m c (t.val - 1) (Nat.lt_of_le_of_lt (Nat.sub_le _ _) t.isLt)).2.2.2.2 := by
  rw [outsAt0_B m c t h h]
  rfl

theorem first_book (c : Dev nD) (t : Fin cfg0.N) (h : t.val % 4 = 0) :
    (outsAt0 m c t.val t.isLt).2.2.2.1 = View.canon (bookPieces (iblk m c 5 t)) := by
  rw [outsAt0_A m c t h h]
  dsimp only
  unfold sout0_A_0
  refine (View.read_writes_eq_canon _ _ _ (by apply scover0_A_0)).trans ?_
  unfold kernelRun0_A
  dsimp only
  sl_unfold_words
  simp only [View.readAt_eq_ld, (hs0_5 t).read_unread]
  rfl

theorem first_norm (c : Dev nD) (t : Fin cfg0.N) (h : t.val % 4 = 0) :
    (outsAt0 m c t.val t.isLt).2.2.2.2 = View.canon (normPieces (iblk m c 5 t)) := by
  rw [outsAt0_A m c t h h]
  dsimp only
  unfold sout0_A_1
  refine (View.read_writes_eq_canon _ _ _ (by apply scover0_A_1)).trans ?_
  unfold kernelRun0_A
  dsimp only
  sl_unfold_words
  simp only [View.readAt_eq_ld, (hs0_5 t).read_unread]
  rfl

theorem first_out (c : Dev nD) (t : Fin cfg0.N) (h : t.val % 4 = 0) :
    (outsAt0 m c t.val t.isLt).1 = View.canon (outPieces (iblk m c 0 t) (iblk m c 1 t) (iblk m c 2 t) (iblk m c 3 t) (iblk m c 4 t)
      (View.canon (bookPieces (iblk m c 5 t))) (View.canon (normPieces (iblk m c 5 t)))) := by
  rw [outsAt0_A m c t h h]
  dsimp only
  unfold out0_A_6
  refine (View.read_writes_eq_canon _ _ _ (by apply cover0_A_6)).trans ?_
  unfold kernelRun0_A
  dsimp only
  sl_unfold_words
  simp only [View.readAt_eq_ld, View.readCov_eq_canon', (hs0_0 t).read_unread, (hs0_1 t).read_unread, (hs0_2 t).read_unread,
    (hs0_3 t).read_unread, (hs0_4 t).read_unread, (hs0_5 t).read_unread]
  rfl

theorem first_code (c : Dev nD) (t : Fin cfg0.N) (h : t.val % 4 = 0) :
    (outsAt0 m c t.val t.isLt).2.1 = View.canon (codePieces (iblk m c 0 t) (iblk m c 1 t) (iblk m c 2 t)
      (View.canon (bookPieces (iblk m c 5 t))) (View.canon (normPieces (iblk m c 5 t)))) := by
  rw [outsAt0_A m c t h h]
  dsimp only
  unfold out0_A_7
  refine (View.read_writes_eq_canon _ _ _ (by apply cover0_A_7)).trans ?_
  unfold kernelRun0_A
  dsimp only
  sl_unfold_words
  simp only [View.readAt_eq_ld, View.readCov_eq_canon', (hs0_0 t).read_unread, (hs0_1 t).read_unread, (hs0_2 t).read_unread,
    (hs0_3 t).read_unread, (hs0_4 t).read_unread, (hs0_5 t).read_unread]
  rfl

theorem first_loss (c : Dev nD) (t : Fin cfg0.N) (h : t.val % 4 = 0) :
    (outsAt0 m c t.val t.isLt).2.2.1 = lossNext (iblk m c 0 t) (iblk m c 1 t) (iblk m c 2 t)
      (View.canon (bookPieces (iblk m c 5 t))) (View.canon (normPieces (iblk m c 5 t))) (zeros S1x1) := by
  rw [outsAt0_A m c t h h]
  dsimp only
  unfold out0_A_8
  refine (View.read_writes_eq_canon _ _ _ (by apply cover0_A_8)).trans ?_
  unfold kernelRun0_A
  dsimp only
  sl_unfold_words
  rw [View.readCov_unit_zero _ (by funext a; fin_cases a <;> rfl)]
  simp only [View.readAt_eq_ld, View.readCov_eq_canon', (hs0_0 t).read_unread, (hs0_1 t).read_unread, (hs0_2 t).read_unread,
    (hs0_3 t).read_unread, (hs0_4 t).read_unread, (hs0_5 t).read_unread]
  refine (View.canon_cons_unit_zero (by funext a; fin_cases a <;> rfl) _ _ _).trans ?_
  rfl

end Cert.KernelIdeal.Body

end
-- ==== Proof.Packed.lean ====
/- The arrays the kernel reads, as the host operations before it leave them: the latents split by frame channel, and the weights
   split by parity of the quantiser, with the four quantisers of a parity packed side by side. -/
module

public import proofs.«01_k».proof.Proof.Gen.KernelIdeal.Frame
public import Idealize.ShloMosaic.Lib.StableHlo.Run
public import proofs.«01_k».proof.Proof.PointValue

@[expose] public section

noncomputable section

namespace Cert.KernelIdeal.Packed

open Cert.KernelIdeal Cert.KernelIdeal.Gen Idealize.ShloMosaic Idealize.ShloMosaic.TcCoe Idealize.SL.Sem Idealize.ShloMosaic.StableHlo
  Idealize.ShloMosaic.ValueIdx

section
variable {F : FTy → Type} [FloatOps F]

/-! ### The packed arrays -/

/-- The latents by frame channel. -/
def frames (x : FVec F S8x8192x128 .f32) : FVec F S8x16x512x128 .f32 := shapeCast S8x16x512x128 x shapeCasts_S8x8192x128_S8x16x512x128

/-- Four quantisers' down projections, packed. -/
def packDown (x : FVec F S4x32x1024 .f32) : FVec F S16x64x128 .f32 :=
  shapeCast S16x64x128 (transpose S16x64x4x32 [3, 2, 0, 1] (shapeCast S4x32x64x16 x shapeCasts_S4x32x1024_S4x32x64x16)
    transposes_S4x32x64x16_S16x64x4x32_3_2_0_1) shapeCasts_S16x64x4x32_S16x64x128

/-- Four quantisers' up projections, packed. -/
def packUp (x : FVec F S4x1024x32 .f32) : FVec F S16x128x64 .f32 :=
  shapeCast S16x128x64 (transpose S16x4x32x64 [2, 0, 3, 1] (shapeCast S4x64x16x32 x shapeCasts_S4x1024x32_S4x64x16x32)
    transposes_S4x64x16x32_S16x4x32x64_2_0_3_1) shapeCasts_S16x4x32x64_S16x128x64

/-- The quantisers of a parity, of the down projections. -/
def partDown (x : FVec F S8x32x1024 .f32) : Fin 2 → FVec F S4x32x1024 .f32
  | 0 => Host.slice S4x32x1024 ![0, 0, 0] ![2, 1, 1] x slicesBy_S8x32x1024_S4x32x1024_0s2_0s1_0s1
  | 1 => Host.slice S4x32x1024 ![1, 0, 0] ![2, 1, 1] x slicesBy_S8x32x1024_S4x32x1024_1s2_0s1_0s1

/-- The quantisers of a parity, of the up projections. -/
def partUp (x : FVec F S8x1024x32 .f32) : Fin 2 → FVec F S4x1024x32 .f32
  | 0 => Host.slice S4x1024x32 ![0, 0, 0] ![2, 1, 1] x slicesBy_S8x1024x32_S4x1024x32_0s2_0s1_0s1
  | 1 => Host.slice S4x1024x32 ![1, 0, 0] ![2, 1, 1] x slicesBy_S8x1024x32_S4x1024x32_1s2_0s1_0s1

/-! ### What the host operations leave -/

theorem cast_v0 (V : Valuation τ sig (Elt F)) :
    (reshape main_arg0 main_v0 (rfl : (.f32 : EltTy) = .f32) shapeCasts_S8x8192x128_S8x16x512x128 : HloOp τ sig (Elt F)).result V (no_index (Proc.devRef .tc main_v0))
      = shapeCast S8x16x512x128 (V (Proc.devRef .tc main_arg0)) shapeCasts_S8x8192x128_S8x16x512x128 := by
  rw [reshape_result]; rfl

theorem cast_v2 (V : Valuation τ sig (Elt F)) :
    (reshape main_v1 main_v2 (rfl : (.f32 : EltTy) = .f32) shapeCasts_S4x32x1024_S4x32x64x16 : HloOp τ sig (Elt F)).result V (no_index (Proc.devRef .tc main_v2))
      = shapeCast S4x32x64x16 (V (Proc.devRef .tc main_v1)) shapeCasts_S4x32x1024_S4x32x64x16 := by
  rw [reshape_result]; rfl

theorem cast_v4 (V : Valuation τ sig (Elt F)) :
    (reshape main_v3 main_v4 (rfl : (.f32 : EltTy) = .f32) shapeCasts_S16x64x4x32_S16x64x128 : HloOp τ sig (Elt F)).result V (no_index (Proc.devRef .tc main_v4))
      = shapeCast S16x64x128 (V (Proc.devRef .tc main_v3)) shapeCasts_S16x64x4x32_S16x64x128 := by
  rw [reshape_result]; rfl

theorem cast_v6 (V : Valuation τ sig (Elt F)) :
    (reshape main_v5 main_v6 (rfl : (.f32 : EltTy) = .f32) shapeCasts_S4x32x1024_S4x32x64x16 : HloOp τ sig (Elt F)).result V (no_index (Proc.devRef .tc main_v6))
      = shapeCast S4x32x64x16 (V (Proc.devRef .tc main_v5)) shapeCasts_S4x32x1024_S4x32x64x16 := by
  rw [reshape_result]; rfl

theorem cast_v8 (V : Valuation τ sig (Elt F)) :
    (reshape main_v7 main_v8 (rfl : (.f32 : EltTy) = .f32) shapeCasts_S16x64x4x32_S16x64x128 : HloOp τ sig (Elt F)).result V (no_index (Proc.devRef .tc main_v8))
      = shapeCast S16x64x128 (V (Proc.devRef .tc main_v7)) shapeCasts_S16x64x4x32_S16x64x128 := by
  rw [reshape_result]; rfl

theorem cast_v10 (V : Valuation τ sig (Elt F)) :
    (reshape main_v9 main_v10 (rfl : (.f32 : EltTy) = .f32) shapeCasts_S4x1024x32_S4x64x16x32 : HloOp τ sig (Elt F)).result V (no_index (Proc.devRef .tc main_v10))
      = shapeCast S4x64x16x32 (V (Proc.devRef .tc main_v9)) shapeCasts_S4x1024x32_S4x64x16x32 := by
  rw [reshape_result]; rfl

theorem cast_v12 (V : Valuation τ sig (Elt F)) :
    (reshape main_v11 main_v12 (rfl : (.f32 : EltTy) = .f32) shapeCasts_S16x4x32x64_S16x128x64 : HloOp τ sig (Elt F)).result V (no_index (Proc.devRef .tc main_v12))
      = shapeCast S16x128x64 (V (Proc.devRef .tc main_v11)) shapeCasts_S16x4x32x64_S16x128x64 := by
  rw [reshape_result]; rfl

theorem cast_v14 (V : Valuation τ sig (Elt F)) :
    (reshape main_v13 main_v14 (rfl : (.f32 : EltTy) = .f32) shapeCasts_S4x1024x32_S4x64x16x32 : HloOp τ sig (Elt F)).result V (no_index (Proc.devRef .tc main_v14))
      = shapeCast S4x64x16x32 (V (Proc.devRef .tc main_v13)) shapeCasts_S4x1024x32_S4x64x16x32 := by
  rw [reshape_result]; rfl

theorem cast_v16 (V : Valuation τ sig (Elt F)) :
    (reshape main_v15 main_v16 (rfl : (.f32 : EltTy) = .f32) shapeCasts_S16x4x32x64_S16x128x64 : HloOp τ sig (Elt F)).result V (no_index (Proc.devRef .tc main_v16))
      = shapeCast S16x128x64 (V (Proc.devRef .tc main_v15)) shapeCasts_S16x4x32x64_S16x128x64 := by
  rw [reshape_result]; rfl

variable (m : (ℓ : Loc nD τ sig) → Buf (Elt F) ℓ) (c : Dev nD)

theorem V_v0 : V m c main_v0 = frames (m ((c : Thread nD τ).loc main_arg0)) := by
  show after hostOps0 _ (Proc.devRef .tc main_v0) = _
  simp only [hostOps0, after_cons, after_nil]
  repeat (first
    | rw [cast_v0]
    | (rw [reshape_result_ne]; rotate_left; decide)
    | (rw [unary_result_ne]; rotate_left; decide)
    | rw [unary_result])
  rfl

theorem V_v4 : V m c main_v4 = packDown (partDown (m ((c : Thread nD τ).loc main_arg1)) 0) := by
  show after hostOps0 _ (Proc.devRef .tc main_v4) = _
  simp only [hostOps0, after_cons, after_nil]
  repeat (first
    | rw [cast_v4]
    | rw [cast_v2]
    | (rw [reshape_result_ne]; rotate_left; decide)
    | (rw [unary_result_ne]; rotate_left; decide)
    | rw [unary_result])
  rfl

theorem V_v8 : V m c main_v8 = packDown (partDown (m ((c : Thread nD τ).loc main_arg1)) 1) := by
  show after hostOps0 _ (Proc.devRef .tc main_v8) = _
  simp only [hostOps0, after_cons, after_nil]
  repeat (first
    | rw [cast_v8]
    | rw [cast_v6]
    | (rw [reshape_result_ne]; rotate_left; decide)
    | (rw [unary_result_ne]; rotate_left; decide)
    | rw [unary_result])
  rfl

theorem V_v12 : V m c main_v12 = packUp (partUp (m ((c : Thread nD τ).loc main_arg2)) 0) := by
  show after hostOps0 _ (Proc.devRef .tc main_v12) = _
  simp only [hostOps0, after_cons, after_nil]
  repeat (first
    | rw [cast_v12]
    | rw [cast_v10]
    | (rw [reshape_result_ne]; rotate_left; decide)
    | (rw [unary_result_ne]; rotate_left; decide)
    | rw [unary_result])
  rfl

theorem V_v16 : V m c main_v16 = packUp (partUp (m ((c : Thread nD τ).loc main_arg2)) 1) := by
  show after hostOps0 _ (Proc.devRef .tc main_v16) = _
  simp only [hostOps0, after_cons, after_nil]
  repeat (first
    | rw [cast_v16]
    | rw [cast_v14]
    | (rw [reshape_result_ne]; rotate_left; decide)
    | (rw [unary_result_ne]; rotate_left; decide)
    | rw [unary_result])
  rfl

end

/-! ### The packed arrays at an index -/

section
variable {F : FTy → Type} [FloatOps F]

theorem frames_apply (x : FVec F S8x8192x128 .f32) (b : Fin 8) (h : Fin 16) (w : Fin 512) (e : Fin 128) :
    frames x (ix4 b h w e) = x (ix3 b ⟨h.val * 512 + w.val, by omega⟩ e) := by
  unfold frames
  exact shapeCast_apply _ _ (ix4 b h w e) (ix3 b (⟨h.val * 512 + w.val, by omega⟩ : Fin 8192) e) (by
    rw [Shape.rowMajor_val_three, Shape.rowMajor_val_four]
    show (b.val * 8192 + (h.val * 512 + w.val)) * 128 + e.val = ((b.val * 16 + h.val) * 512 + w.val) * 128 + e.val
    omega)

theorem packDown_apply (x : FVec F S4x32x1024 .f32) (h : Fin 16) (e : Fin 64) (o : Fin 4) (k : Fin 32) :
    packDown x (ix3 h e ⟨32 * o.val + k.val, by omega⟩) = x (ix3 o k ⟨e.val * 16 + h.val, by omega⟩) := by
  unfold packDown
  rw [shapeCast_apply _ _ (ix3 h e (⟨32 * o.val + k.val, by omega⟩ : Fin 128)) (ix4 h e o k) (by
    rw [Shape.rowMajor_val_three, Shape.rowMajor_val_four]
    show ((h.val * 64 + e.val) * 4 + o.val) * 32 + k.val = (h.val * 64 + e.val) * 128 + (32 * o.val + k.val)
    omega)]
  rw [transpose_apply _ _ _ (ix4 h e o k) (ix4 o k e h) (fun b => by
    match b with
    | ⟨0, _⟩ => rfl
    | ⟨1, _⟩ => rfl
    | ⟨2, _⟩ => rfl
    | ⟨3, _⟩ => rfl)]
  exact shapeCast_apply _ _ (ix4 o k e h) (ix3 o k (⟨e.val * 16 + h.val, by omega⟩ : Fin 1024)) (by
    rw [Shape.rowMajor_val_three, Shape.rowMajor_val_four]
    show (o.val * 32 + k.val) * 1024 + (e.val * 16 + h.val) = ((o.val * 32 + k.val) * 64 + e.val) * 16 + h.val
    omega)

theorem packUp_apply (x : FVec F S4x1024x32 .f32) (h : Fin 16) (o : Fin 4) (k : Fin 32) (e : Fin 64) :
    packUp x (ix3 h ⟨32 * o.val + k.val, by omega⟩ e) = x (ix3 o ⟨e.val * 16 + h.val, by omega⟩ k) := by
  unfold packUp
  rw [shapeCast_apply _ _ (ix3 h (⟨32 * o.val + k.val, by omega⟩ : Fin 128) e) (ix4 h o k e) (by
    rw [Shape.rowMajor_val_three, Shape.rowMajor_val_four]
    show ((h.val * 4 + o.val) * 32 + k.val) * 64 + e.val = (h.val * 128 + (32 * o.val + k.val)) * 64 + e.val
    omega)]
  rw [transpose_apply _ _ _ (ix4 h o k e) (ix4 o e h k) (fun b => by
    match b with
    | ⟨0, _⟩ => rfl
    | ⟨1, _⟩ => rfl
    | ⟨2, _⟩ => rfl
    | ⟨3, _⟩ => rfl)]
  exact shapeCast_apply _ _ (ix4 o e h k) (ix3 o (⟨e.val * 16 + h.val, by omega⟩ : Fin 1024) k) (by
    rw [Shape.rowMajor_val_three, Shape.rowMajor_val_four]
    show (o.val * 1024 + (e.val * 16 + h.val)) * 32 + k.val = ((o.val * 64 + e.val) * 16 + h.val) * 32 + k.val
    omega)

theorem partDown_apply (x : FVec F S8x32x1024 .f32) (s : Fin 2) (o : Fin 4) (k : Fin 32) (j : Fin 1024) :
    partDown x s (ix3 o k j) = x (ix3 ⟨2 * o.val + s.val, by omega⟩ k j) := by
  match s with
  | 0 =>
    refine congrArg x (funext fun a => Fin.ext ?_)
    match a with
    | ⟨0, _⟩ => show 0 + 2 * o.val = 2 * o.val + 0; omega
    | ⟨1, _⟩ => show 0 + 1 * k.val = k.val; omega
    | ⟨2, _⟩ => show 0 + 1 * j.val = j.val; omega
  | 1 =>
    refine congrArg x (funext fun a => Fin.ext ?_)
    match a with
    | ⟨0, _⟩ => show 1 + 2 * o.val = 2 * o.val + 1; omega
    | ⟨1, _⟩ => show 0 + 1 * k.val = k.val; omega
    | ⟨2, _⟩ => show 0 + 1 * j.val = j.val; omega

theorem partUp_apply (x : FVec F S8x1024x32 .f32) (s : Fin 2) (o : Fin 4) (j : Fin 1024) (k : Fin 32) :
    partUp x s (ix3 o j k) = x (ix3 ⟨2 * o.val + s.val, by omega⟩ j k) := by
  match s with
  | 0 =>
    refine congrArg x (funext fun a => Fin.ext ?_)
    match a with
    | ⟨0, _⟩ => show 0 + 2 * o.val = 2 * o.val + 0; omega
    | ⟨1, _⟩ => show 0 + 1 * j.val = j.val; omega
    | ⟨2, _⟩ => show 0 + 1 * k.val = k.val; omega
  | 1 =>
    refine congrArg x (funext fun a => Fin.ext ?_)
    match a with
    | ⟨0, _⟩ => show 1 + 2 * o.val = 2 * o.val + 1; omega
    | ⟨1, _⟩ => show 0 + 1 * j.val = j.val; omega
    | ⟨2, _⟩ => show 0 + 1 * k.val = k.val; omega

end

end Cert.KernelIdeal.Packed

end
-- ==== Proof.Spec.lean ====
/- The four results as mathematics over the extended reals: the projected rows, the codes, the projected quantised rows and the loss,
   in the coordinates of the arguments. -/
module

public import proofs.«01_k».proof.Proof.Row
public import Idealize.ShloMosaic.Lib.ValueIdx

@[expose] public section

noncomputable section

namespace Cert.Spec

open Idealize.ShloMosaic Idealize.ShloMosaic.ValueIdx
open scoped BigOperators

variable (z : (⟨3, ![8, 8192, 128]⟩ : Shape).Idx → EReal) (d : (⟨3, ![8, 32, 1024]⟩ : Shape).Idx → EReal)
  (u : (⟨3, ![8, 1024, 32]⟩ : Shape).Idx → EReal) (e : (⟨3, ![8, 1024, 32]⟩ : Shape).Idx → EReal)

/-- Quantiser `m`'s row at batch `b` and time `t`: channel `j` of its slice is frame channel `j % 16` of frame `4 t + m / 2`. -/
def row (m b : Fin 8) (t : Fin 128) : Fin 32 → EReal := fun k =>
  ∑ j : Fin 1024, z (ix3 b ⟨j.val % 16 * 512 + (4 * t.val + m.val / 2), by omega⟩ ⟨64 * (m.val % 2) + j.val / 16, by omega⟩) * d (ix3 m k j)

/-- Quantiser `m`'s codebook. -/
def book (m : Fin 8) : Fin 1024 → Fin 32 → EReal := fun j k => e (ix3 m j k)

/-- The code. -/
def code (m b : Fin 8) (t : Fin 128) : BitVec 32 := BitVec.ofNat 32 (Row.code (row z d m b t) (book e m)).val

/-- The quantiser that frame `w`'s channel `x` belongs to. -/
abbrev quantiser (w : Fin 512) (x : Fin 128) : Fin 8 := ⟨2 * (w.val % 4) + x.val / 64, by omega⟩

/-- The result at batch `b`, frame channel `h`, frame `w`, channel `x`. -/
def out (b : Fin 8) (h : Fin 16) (w : Fin 512) (x : Fin 128) : EReal :=
  ∑ k : Fin 32, u (ix3 (quantiser w x) ⟨x.val % 64 * 16 + h.val, by omega⟩ k)
    * Row.quant (row z d (quantiser w x) b ⟨w.val / 4, by omega⟩) (book e (quantiser w x)) k

/-- The summed squared error of quantiser `m`. -/
def errSum (m : Fin 8) : EReal := ∑ b : Fin 8, ∑ t : Fin 128, Row.err (row z d m b t) (book e m)

/-- The mean squared error. -/
def loss : EReal := Ideal.div (∑ m : Fin 8, errSum z d e m) (Ideal.ofBits .f32 0x48800000#32)

/-- The row as a double sum over the frame channels and the half's channels. -/
theorem row_eq (m b : Fin 8) (t : Fin 128) (k : Fin 32) : row z d m b t k = ∑ h : Fin 16, ∑ x : Fin 64,
    z (ix3 b ⟨h.val * 512 + (4 * t.val + m.val / 2), by omega⟩ ⟨64 * (m.val % 2) + x.val, by omega⟩) * d (ix3 m k ⟨x.val * 16 + h.val, by omega⟩) := by
  unfold row
  rw [← Equiv.sum_comp (finProdFinEquiv (m := 64) (n := 16)), Fintype.sum_prod_type, Finset.sum_comm]
  refine Finset.sum_congr rfl fun h _ => Finset.sum_congr rfl fun x _ => ?_
  have hv : (finProdFinEquiv (x, h)).val = h.val + 16 * x.val := rfl
  congr 2
  · congr 1
    · exact Fin.ext (by show (finProdFinEquiv (x, h)).val % 16 * 512 + _ = h.val * 512 + _; rw [hv]; omega)
    · exact Fin.ext (by show _ + (finProdFinEquiv (x, h)).val / 16 = _ + x.val; rw [hv]; omega)
  · exact congrArg (ix3 m k) (Fin.ext (by rw [hv]; show _ = x.val * 16 + h.val; omega))

end Cert.Spec

end
-- ==== Proof.Arrays.lean ====
/- The kernel's three result arrays after the run, in the coordinates of the arguments. -/
module

public import proofs.«01_k».proof.Proof.PointValue
public import proofs.«01_k».proof.Proof.Points
public import proofs.«01_k».proof.Proof.Packed
public import proofs.«01_k».proof.Proof.Spec
public import Idealize.ShloMosaic.Lib.Pipeline.ValueKit

@[expose] public section

noncomputable section

namespace Cert.KernelIdeal.Arrays

open Idealize.ShloMosaic hiding ix1 ix2 ix3 ix4
open Cert.KernelIdeal Cert.KernelIdeal.Gen Cert.KernelIdeal.Body Cert.KernelIdeal.Packed Idealize.ShloMosaic.TcCoe
  Idealize.SL.Sem Idealize.ShloMosaic.ValueIdx
open scoped BigOperators

variable (m : (ℓ : Loc nD τ sig) → Buf (Elt Ideal) ℓ) (c : Dev nD)

/-- The latents. -/
abbrev argZ : FVec Ideal S8x8192x128 .f32 := m ((c : Thread nD τ).loc main_arg0)
/-- The down projections. -/
abbrev argD : FVec Ideal S8x32x1024 .f32 := m ((c : Thread nD τ).loc main_arg1)
/-- The up projections. -/
abbrev argU : FVec Ideal S8x1024x32 .f32 := m ((c : Thread nD τ).loc main_arg2)
/-- The codebooks. -/
abbrev argE : FVec Ideal S8x1024x32 .f32 := m ((c : Thread nD τ).loc main_arg3)

theorem lt_four (t : Fin cfg0.N) : t.val < 4 := lt_of_lt_of_eq t.isLt N_0

/-! ### The blocks the kernel reads -/

theorem block_frames (t : Fin cfg0.N) (b : Fin 8) (h : Fin 16) (w x : Fin 128) :
    (iblk m c 0 t : Vec Ideal S8x16x128x128 .f32) (ix4 b h w x)
      = argZ m c (ix3 b ⟨h.val * 512 + (128 * t.val + w.val), by have := lt_four t; omega⟩ x) := by
  have hi : win0_0.index t 0 = 0 ∧ win0_0.index t 1 = 0 ∧ win0_0.index t 2 = t.val ∧ win0_0.index t 3 = 0 := by
    rcases fin_N0 t with rfl | rfl | rfl | rfl <;> decide
  rw [← frames_apply (argZ m c) b h (⟨128 * t.val + w.val, by have := lt_four t; omega⟩ : Fin 512) x, ← V_v0]
  unfold iblk
  rw [View.read_apply]
  show V m c main_v0 _ = V m c main_v0 _
  congr 1
  funext a
  apply Fin.ext
  match a with
  | ⟨0, _⟩ => show win0_0.index t 0 * 8 + 1 * b.val = b.val; rw [hi.1]; omega
  | ⟨1, _⟩ => show win0_0.index t 1 * 16 + 1 * h.val = h.val; rw [hi.2.1]; omega
  | ⟨2, _⟩ => show win0_0.index t 2 * 128 + 1 * w.val = 128 * t.val + w.val; rw [hi.2.2.1]; omega
  | ⟨3, _⟩ => show win0_0.index t 3 * 128 + 1 * x.val = x.val; rw [hi.2.2.2]; omega

theorem block_down0 (t : Fin cfg0.N) : (iblk m c 1 t : Vec Ideal S16x64x128 .f32) = packDown (partDown (argD m c) 0) := by
  have hi : win0_1.index t 0 = 0 ∧ win0_1.index t 1 = 0 ∧ win0_1.index t 2 = 0 := by
    rcases fin_N0 t with rfl | rfl | rfl | rfl <;> decide
  rw [← V_v4]
  funext j
  unfold iblk
  rw [View.read_apply]
  show V m c main_v4 _ = V m c main_v4 _
  congr 1
  funext a
  apply Fin.ext
  match a with
  | ⟨0, _⟩ => show win0_1.index t 0 * 16 + 1 * (j 0).val = (j 0).val; rw [hi.1]; omega
  | ⟨1, _⟩ => show win0_1.index t 1 * 64 + 1 * (j 1).val = (j 1).val; rw [hi.2.1]; omega
  | ⟨2, _⟩ => show win0_1.index t 2 * 128 + 1 * (j 2).val = (j 2).val; rw [hi.2.2]; omega

theorem block_down1 (t : Fin cfg0.N) : (iblk m c 2 t : Vec Ideal S16x64x128 .f32) = packDown (partDown (argD m c) 1) := by
  have hi : win0_2.index t 0 = 0 ∧ win0_2.index t 1 = 0 ∧ win0_2.index t 2 = 0 := by
    rcases fin_N0 t with rfl | rfl | rfl | rfl <;> decide
  rw [← V_v8]
  funext j
  unfold iblk
  rw [View.read_apply]
  show V m c main_v8 _ = V m c main_v8 _
  congr 1
  funext a
  apply Fin.ext
  match a with
  | ⟨0, _⟩ => show win0_2.index t 0 * 16 + 1 * (j 0).val = (j 0).val; rw [hi.1]; omega
  | ⟨1, _⟩ => show win0_2.index t 1 * 64 + 1 * (j 1).val = (j 1).val; rw [hi.2.1]; omega
  | ⟨2, _⟩ => show win0_2.index t 2 * 128 + 1 * (j 2).val = (j 2).val; rw [hi.2.2]; omega

theorem block_up0 (t : Fin cfg0.N) : (iblk m c 3 t : Vec Ideal S16x128x64 .f32) = packUp (partUp (argU m c) 0) := by
  have hi : win0_3.index t 0 = 0 ∧ win0_3.index t 1 = 0 ∧ win0_3.index t 2 = 0 := by
    rcases fin_N0 t with rfl | rfl | rfl | rfl <;> decide
  rw [← V_v12]
  funext j
  unfold iblk
  rw [View.read_apply]
  show V m c main_v12 _ = V m c main_v12 _
  congr 1
  funext a
  apply Fin.ext
  match a with
  | ⟨0, _⟩ => show win0_3.index t 0 * 16 + 1 * (j 0).val = (j 0).val; rw [hi.1]; omega
  | ⟨1, _⟩ => show win0_3.index t 1 * 128 + 1 * (j 1).val = (j 1).val; rw [hi.2.1]; omega
  | ⟨2, _⟩ => show win0_3.index t 2 * 64 + 1 * (j 2).val = (j 2).val; rw [hi.2.2]; omega

theorem block_up1 (t : Fin cfg0.N) : (iblk m c 4 t : Vec Ideal S16x128x64 .f32) = packUp (partUp (argU m c) 1) := by
  have hi : win0_4.index t 0 = 0 ∧ win0_4.index t 1 = 0 ∧ win0_4.index t 2 = 0 := by
    rcases fin_N0 t with rfl | rfl | rfl | rfl <;> decide
  rw [← V_v16]
  funext j
  unfold iblk
  rw [View.read_apply]
  show V m c main_v16 _ = V m c main_v16 _
  congr 1
  funext a
  apply Fin.ext
  match a with
  | ⟨0, _⟩ => show win0_4.index t 0 * 16 + 1 * (j 0).val = (j 0).val; rw [hi.1]; omega
  | ⟨1, _⟩ => show win0_4.index t 1 * 128 + 1 * (j 1).val = (j 1).val; rw [hi.2.1]; omega
  | ⟨2, _⟩ => show win0_4.index t 2 * 64 + 1 * (j 2).val = (j 2).val; rw [hi.2.2]; omega

theorem block_book (t : Fin cfg0.N) : (iblk m c 5 t : Vec Ideal S8x1024x32 .f32) = argE m c := by
  have hi : win0_5.index t 0 = 0 ∧ win0_5.index t 1 = 0 ∧ win0_5.index t 2 = 0 := by
    rcases fin_N0 t with rfl | rfl | rfl | rfl <;> decide
  rw [argE, ← V_main_arg3 m c]
  funext j
  unfold iblk
  rw [View.read_apply]
  show V m c main_arg3 _ = V m c main_arg3 _
  congr 1
  funext a
  apply Fin.ext
  match a with
  | ⟨0, _⟩ => show win0_5.index t 0 * 8 + 1 * (j 0).val = (j 0).val; rw [hi.1]; omega
  | ⟨1, _⟩ => show win0_5.index t 1 * 1024 + 1 * (j 1).val = (j 1).val; rw [hi.2.1]; omega
  | ⟨2, _⟩ => show win0_5.index t 2 * 32 + 1 * (j 2).val = (j 2).val; rw [hi.2.2]; omega

/-! ### The rows of a point -/

theorem weights_down (s : Fin 2) (h : Fin 16) (x : Fin 64) (o : Fin 4) (k : Fin 32) :
    wOf (packDown (partDown (argD m c) 0)) (packDown (partDown (argD m c) 1)) s (ix3 h x ⟨32 * o.val + k.val, by omega⟩)
      = argD m c (ix3 (quant o s) k ⟨x.val * 16 + h.val, by omega⟩) := by
  match s with
  | 0 => exact (packDown_apply _ h x o k).trans (partDown_apply _ 0 o k _)
  | 1 => exact (packDown_apply _ h x o k).trans (partDown_apply _ 1 o k _)

theorem weights_up (s : Fin 2) (h : Fin 16) (x : Fin 64) (o : Fin 4) (k : Fin 32) :
    wOf (packUp (partUp (argU m c) 0)) (packUp (partUp (argU m c) 1)) s (ix3 h ⟨32 * o.val + k.val, by omega⟩ x)
      = argU m c (ix3 (quant o s) ⟨x.val * 16 + h.val, by omega⟩ k) := by
  match s with
  | 0 => exact (packUp_apply _ h o k x).trans (partUp_apply _ 0 o _ k)
  | 1 => exact (packUp_apply _ h o k x).trans (partUp_apply _ 1 o _ k)

theorem row_point (t : Fin cfg0.N) (o : Fin 4) (s : Fin 2) (r : Fin 256) :
    rowOf (zrows (iblk m c 0 t) (iblk m c 1 t) (iblk m c 2 t) o s) r
      = Spec.row (argZ m c) (argD m c) (quant o s) ⟨r.val / 32, by omega⟩ ⟨32 * t.val + r.val % 32, by have := lt_four t; omega⟩ := by
  funext k
  rw [Spec.row_eq]
  refine (zrows_apply _ _ _ o s r k).trans ?_
  refine Finset.sum_congr rfl fun h _ => Finset.sum_congr rfl fun x _ => ?_
  rw [block_down0, block_down1, weights_down, block_frames]
  congr 2
  congr 1
  · exact Fin.ext (by
      show h.val * 512 + (128 * t.val + (4 * (r.val % 32) + o.val)) = h.val * 512 + (4 * (32 * t.val + r.val % 32) + (2 * o.val + s.val) / 2)
      omega)
  · exact Fin.ext (by show 64 * s.val + x.val = 64 * ((2 * o.val + s.val) % 2) + x.val; omega)

/-! ### The scratch and the loss, point by point -/

theorem scratch (n : ℕ) (h : n < cfg0.N) :
    (outsAt0 m c n h).2.2.2.1 = bookFn (argE m c) ∧ (outsAt0 m c n h).2.2.2.2 = normFn (argE m c) := by
  induction n with
  | zero =>
    refine ⟨(first_book m c ⟨0, h⟩ rfl).trans ?_, (first_norm m c ⟨0, h⟩ rfl).trans ?_⟩
    · rw [canon_bookPieces, block_book]
    · rw [canon_normPieces, block_book]
  | succ n ih =>
    have hn : ¬(n + 1) % 4 = 0 := by have := lt_four ⟨n + 1, h⟩; show ¬(n + 1) % 4 = 0; simp only at this; omega
    exact ⟨(later_book m c ⟨n + 1, h⟩ hn).trans (ih _).1, (later_norm m c ⟨n + 1, h⟩ hn).trans (ih _).2⟩

theorem point_out (t : Fin cfg0.N) : (outsAt0 m c t.val t.isLt).1 = View.canon (outPieces (iblk m c 0 t) (iblk m c 1 t) (iblk m c 2 t)
    (iblk m c 3 t) (iblk m c 4 t) (bookFn (argE m c)) (normFn (argE m c))) := by
  by_cases h : t.val % 4 = 0
  · rw [first_out m c t h, canon_bookPieces, canon_normPieces, block_book]
  · rw [later_out m c t h, (scratch m c _ _).1, (scratch m c _ _).2]

theorem point_code (t : Fin cfg0.N) : (outsAt0 m c t.val t.isLt).2.1 = View.canon (codePieces (iblk m c 0 t) (iblk m c 1 t) (iblk m c 2 t)
    (bookFn (argE m c)) (normFn (argE m c))) := by
  by_cases h : t.val % 4 = 0
  · rw [first_code m c t h, canon_bookPieces, canon_normPieces, block_book]
  · rw [later_code m c t h, (scratch m c _ _).1, (scratch m c _ _).2]

/-- The point's error. -/
def pointErr (t : Fin cfg0.N) : EReal := ∑ q : Fin 8, errOf (iblk m c 0 t) (iblk m c 1 t) (iblk m c 2 t) (argE m c) q

theorem point_loss_first (t : Fin cfg0.N) (h : t.val % 4 = 0) (i : S1x1.Idx) : (outsAt0 m c t.val t.isLt).2.2.1 i = pointErr m c t := by
  rw [first_loss m c t h, canon_bookPieces, canon_normPieces, block_book]
  refine (lossNext_apply _ _ _ _ _ i).trans ?_
  rw [zeros_apply, zero_add]
  rfl

theorem point_loss_later (t : Fin cfg0.N) (h : ¬t.val % 4 = 0) (i : S1x1.Idx) : (outsAt0 m c t.val t.isLt).2.2.1 i
    = (outsAt0 m c (t.val - 1) (Nat.lt_of_le_of_lt (Nat.sub_le _ _) t.isLt)).2.2.1 i + pointErr m c t := by
  rw [later_loss m c t h, (scratch m c _ _).1, (scratch m c _ _).2]
  exact lossNext_apply _ _ _ _ _ i

theorem last_loss (i : S1x1.Idx) : (outsAt0 m c t0_3.val t0_3.isLt).2.2.1 i = ∑ t : Fin 4, pointErr m c (t.cast N_0.symm) := by
  rw [Fin.sum_univ_four, point_loss_later m c t0_3 (by decide) i]
  refine congrArg₂ (· + ·) ((point_loss_later m c t0_2 (by decide) i).trans ?_) rfl
  refine congrArg₂ (· + ·) ((point_loss_later m c t0_1 (by decide) i).trans ?_) rfl
  exact congrArg₂ (· + ·) (point_loss_first m c t0_0 (by decide) i) rfl

end Cert.KernelIdeal.Arrays

end
-- ==== Proof.KernelValue.lean ====
/- The kernel's results after the run: each is the specification of the arguments. -/
module

public import proofs.«01_k».proof.Proof.Arrays
public import proofs.«01_k».proof.Proof.Gen.KernelIdeal.Run
public import proofs.«01_k».proof.Proof.Gen.KernelIdeal.Read

@[expose] public section

noncomputable section

namespace Cert.KernelIdeal.Arrays

open Idealize.ShloMosaic hiding ix1 ix2 ix3 ix4
open Cert.KernelIdeal Cert.KernelIdeal.Gen Cert.KernelIdeal.Body Cert.KernelIdeal.Packed Idealize.ShloMosaic.TcCoe
  Idealize.SL.Sem Idealize.ShloMosaic.ValueIdx
open scoped BigOperators

variable (m : (ℓ : Loc nD τ sig) → Buf (Elt Ideal) ℓ) (c : Dev nD)

/-! ### What a point leaves, by the specification -/

theorem out_point (t : Fin cfg0.N) (b : Fin 8) (h : Fin 16) (w x : Fin 128) :
    outFn (iblk m c 0 t) (iblk m c 1 t) (iblk m c 2 t) (iblk m c 3 t) (iblk m c 4 t) (argE m c) (ix4 b h w x)
      = Spec.out (argZ m c) (argD m c) (argU m c) (argE m c) b h ⟨128 * t.val + w.val, by have := lt_four t; omega⟩ x := by
  have ht := lt_four t
  unfold outFn Spec.out
  refine Finset.sum_congr rfl fun k _ => ?_
  refine (mul_comm _ _).trans ?_
  have eq : quant (⟨w.val % 4, by omega⟩ : Fin 4) (⟨x.val / 64, by omega⟩ : Fin 2) = Spec.quantiser ⟨128 * t.val + w.val, by omega⟩ x :=
    Fin.ext (by show 2 * (w.val % 4) + x.val / 64 = 2 * ((128 * t.val + w.val) % 4) + x.val / 64; omega)
  have er := row_point m c t (⟨w.val % 4, by omega⟩ : Fin 4) (⟨x.val / 64, by omega⟩ : Fin 2) (⟨b.val * 32 + w.val / 4, by omega⟩ : Fin 256)
  have eu := weights_up m c (⟨x.val / 64, by omega⟩ : Fin 2) h (⟨x.val % 64, by omega⟩ : Fin 64) (⟨w.val % 4, by omega⟩ : Fin 4) k
  have eb : (⟨(b.val * 32 + w.val / 4) / 32, by omega⟩ : Fin 8) = b := Fin.ext (by show _ / 32 = b.val; omega)
  have et : (⟨32 * t.val + (b.val * 32 + w.val / 4) % 32, by omega⟩ : Fin 128) = ⟨(128 * t.val + w.val) / 4, by omega⟩ :=
    Fin.ext (by show 32 * t.val + (b.val * 32 + w.val / 4) % 32 = (128 * t.val + w.val) / 4; omega)
  rw [eq] at er eu
  refine congrArg₂ (· * ·) ?_ ?_
  · rw [block_up0, block_up1]
    exact eu
  · exact congrFun (congrArg₂ Row.quant (er.trans (by rw [eb, et])) (congrArg (Spec.book (argE m c)) eq)) k

theorem code_point (t : Fin cfg0.N) (u : Fin 1) (q b : Fin 8) (v : Fin 32) :
    codeFn (iblk m c 0 t) (iblk m c 1 t) (iblk m c 2 t) (argE m c) (ix4 u q b v)
      = Spec.code (argZ m c) (argD m c) (argE m c) q b ⟨32 * t.val + v.val, by have := lt_four t; omega⟩ := by
  have ht := lt_four t
  have eq : quant (⟨q.val / 2, by omega⟩ : Fin 4) (⟨q.val % 2, by omega⟩ : Fin 2) = q :=
    Fin.ext (by show 2 * (q.val / 2) + q.val % 2 = q.val; omega)
  have er := row_point m c t (⟨q.val / 2, by omega⟩ : Fin 4) (⟨q.val % 2, by omega⟩ : Fin 2) (⟨b.val * 32 + v.val, by omega⟩ : Fin 256)
  have eb : (⟨(b.val * 32 + v.val) / 32, by omega⟩ : Fin 8) = b := Fin.ext (by show _ / 32 = b.val; omega)
  have et : (⟨32 * t.val + (b.val * 32 + v.val) % 32, by omega⟩ : Fin 128) = ⟨32 * t.val + v.val, by omega⟩ :=
    Fin.ext (by show 32 * t.val + (b.val * 32 + v.val) % 32 = 32 * t.val + v.val; omega)
  rw [eq] at er
  exact congrArg (fun r => BitVec.ofNat 32 (Row.code r (Spec.book (argE m c) q)).val) (er.trans (by rw [eb, et]))

theorem err_point (t : Fin cfg0.N) (q : Fin 8) : errOf (iblk m c 0 t) (iblk m c 1 t) (iblk m c 2 t) (argE m c) q
    = ∑ b : Fin 8, ∑ v : Fin 32, Row.err (Spec.row (argZ m c) (argD m c) q b ⟨32 * t.val + v.val, by have := lt_four t; omega⟩)
        (Spec.book (argE m c) q) := by
  have ht := lt_four t
  have eq : quant (⟨q.val / 2, by omega⟩ : Fin 4) (⟨q.val % 2, by omega⟩ : Fin 2) = q :=
    Fin.ext (by show 2 * (q.val / 2) + q.val % 2 = q.val; omega)
  unfold errOf
  rw [← Equiv.sum_comp (finProdFinEquiv (m := 8) (n := 32)), Fintype.sum_prod_type]
  refine Finset.sum_congr rfl fun b _ => Finset.sum_congr rfl fun v _ => ?_
  have hv : (finProdFinEquiv (b, v)).val = v.val + 32 * b.val := rfl
  have er := row_point m c t (⟨q.val / 2, by omega⟩ : Fin 4) (⟨q.val % 2, by omega⟩ : Fin 2) (finProdFinEquiv (b, v))
  rw [eq] at er
  have eb : (⟨(finProdFinEquiv (b, v)).val / 32, by omega⟩ : Fin 8) = b := Fin.ext (by show _ / 32 = b.val; omega)
  have et : (⟨32 * t.val + (finProdFinEquiv (b, v)).val % 32, by omega⟩ : Fin 128) = ⟨32 * t.val + v.val, by omega⟩ :=
    Fin.ext (by show 32 * t.val + _ % 32 = 32 * t.val + v.val; omega)
  exact congrArg (fun r => Row.err r (Spec.book (argE m c) q)) (er.trans (by rw [eb, et]))

/-! ### The arrays -/

/-- The frames by the specification. -/
def framesSpec : FVec Ideal S8x16x512x128 .f32 := fun i => Spec.out (argZ m c) (argD m c) (argU m c) (argE m c) (i 0) (i 1) (i 2) (i 3)

/-- The codes, tile by tile, by the specification. -/
def codesSpec : IVec S4x8x8x32 32 := fun i => Spec.code (argZ m c) (argD m c) (argE m c) (i 1) (i 2)
  ⟨32 * (i 0).val + (i 3).val, by
    have : (i 0).val < 4 := (i 0).isLt
    have : (i 3).val < 32 := (i 3).isLt
    omega⟩

theorem frames_array : (dats m 0 c).arrAt 6 cfg0.N = framesSpec m c := by
  refine (dats m 0 c).arrAt_eq_of_covers 6 _ (by decide +kernel) fun t hf y => ?_
  have hi : win0_6.index t 0 = 0 ∧ win0_6.index t 1 = 0 ∧ win0_6.index t 2 = t.val ∧ win0_6.index t 3 = 0 := by
    rcases fin_N0 t with rfl | rfl | rfl | rfl <;> decide
  blk_simp
  rw [after0_6, point_out]
  obtain ⟨b, h, w, x, rfl⟩ : ∃ b h w x, y = ix4 (n0 := 8) (n1 := 16) (n2 := 128) (n3 := 128) b h w x := ⟨y 0, y 1, y 2, y 3, ValueIdx.eq_ix4 y⟩
  refine (canon_outPieces _ _ _ _ _ _ _).trans ((out_point m c t b h w x).trans ?_)
  refine congrArg (framesSpec m c) (a₁ := ix4 b h (⟨128 * t.val + w.val, by have := lt_four t; omega⟩ : Fin 512) x) ?_
  funext a
  apply Fin.ext
  match a with
  | ⟨0, _⟩ => show b.val = win0_6.index t 0 * 8 + 1 * b.val; rw [hi.1]; omega
  | ⟨1, _⟩ => show h.val = win0_6.index t 1 * 16 + 1 * h.val; rw [hi.2.1]; omega
  | ⟨2, _⟩ => show 128 * t.val + w.val = win0_6.index t 2 * 128 + 1 * w.val; rw [hi.2.2.1]; omega
  | ⟨3, _⟩ => show x.val = win0_6.index t 3 * 128 + 1 * x.val; rw [hi.2.2.2]; omega

theorem codes_array : (dats m 0 c).arrAt 7 cfg0.N = codesSpec m c := by
  refine (dats m 0 c).arrAt_eq_of_covers 7 _ (by decide +kernel) fun t hf y => ?_
  have hi : win0_7.index t 0 = t.val ∧ win0_7.index t 1 = 0 ∧ win0_7.index t 2 = 0 ∧ win0_7.index t 3 = 0 := by
    rcases fin_N0 t with rfl | rfl | rfl | rfl <;> decide
  blk_simp
  rw [after0_7, point_code]
  obtain ⟨u, q, b, v, rfl⟩ : ∃ u q b v, y = ix4 (n0 := 1) (n1 := 8) (n2 := 8) (n3 := 32) u q b v := ⟨y 0, y 1, y 2, y 3, ValueIdx.eq_ix4 y⟩
  refine (canon_codePieces _ _ _ _ _).trans ((code_point m c t u q b v).trans ?_)
  refine congrArg (codesSpec m c) (a₁ := ix4 (⟨t.val, lt_four t⟩ : Fin 4) q b v) ?_
  funext a
  apply Fin.ext
  match a with
  | ⟨0, _⟩ => show t.val = win0_7.index t 0 * 1 + 1 * u.val; rw [hi.1]; omega
  | ⟨1, _⟩ => show q.val = win0_7.index t 1 * 8 + 1 * q.val; rw [hi.2.1]; omega
  | ⟨2, _⟩ => show b.val = win0_7.index t 2 * 8 + 1 * b.val; rw [hi.2.2.1]; omega
  | ⟨3, _⟩ => show v.val = win0_7.index t 3 * 32 + 1 * v.val; rw [hi.2.2.2]; omega

/-- The points' errors add up to the errors of all rows. -/
theorem sum_points : ∑ t : Fin 4, pointErr m c (t.cast N_0.symm) = ∑ q : Fin 8, Spec.errSum (argZ m c) (argD m c) (argE m c) q := by
  unfold pointErr
  rw [Finset.sum_comm]
  refine Finset.sum_congr rfl fun q _ => ?_
  simp only [err_point]
  rw [Finset.sum_comm]
  unfold Spec.errSum
  refine Finset.sum_congr rfl fun b _ => ?_
  rw [← Equiv.sum_comp (finProdFinEquiv (m := 4) (n := 32)), Fintype.sum_prod_type]
  refine Finset.sum_congr rfl fun t _ => Finset.sum_congr rfl fun v _ => ?_
  have hv : (finProdFinEquiv (t, v)).val = v.val + 32 * t.val := rfl
  refine congrArg (fun x => Row.err (Spec.row (argZ m c) (argD m c) q b x) (Spec.book (argE m c) q)) (Fin.ext ?_)
  show 32 * t.val + v.val = (finProdFinEquiv (t, v)).val
  omega

theorem loss_array : (dats m 0 c).arrAt 8 cfg0.N = fun _ => ∑ q : Fin 8, Spec.errSum (argZ m c) (argD m c) (argE m c) q := by
  refine (dats m 0 c).arrAt_eq_of_covers 8 _ (by decide +kernel) fun t hf y => ?_
  have ht : t = t0_3 := by
    have h3 := (flush0_8 t).mp hf
    rcases fin_N0 t with rfl | rfl | rfl | rfl
    · exact absurd h3 (by decide)
    · exact absurd h3 (by decide)
    · exact absurd h3 (by decide)
    · rfl
  subst ht
  blk_simp
  rw [after0_8]
  exact (last_loss m c _).trans (sum_points m c)

/-! ### The results -/

theorem result_frames (b : Fin 8) (n : Fin 8192) (x : Fin 128) :
    shapeCast S8x8192x128 (Value.reg_main_v17_0 m c) shapeCasts_S8x16x512x128_S8x8192x128 (ix3 b n x)
      = Spec.out (argZ m c) (argD m c) (argU m c) (argE m c) b ⟨n.val / 512, by omega⟩ ⟨n.val % 512, by omega⟩ x := by
  rw [shapeCast_apply _ _ (ix3 b n x) (ix4 b (⟨n.val / 512, by omega⟩ : Fin 16) (⟨n.val % 512, by omega⟩ : Fin 512) x) (by
    rw [Shape.rowMajor_val_three, Shape.rowMajor_val_four]
    show ((b.val * 16 + n.val / 512) * 512 + n.val % 512) * 128 + x.val = (b.val * 8192 + n.val) * 128 + x.val
    omega)]
  exact congrFun (frames_array m c) _

theorem result_codes (b q : Fin 8) (t : Fin 128) :
    shapeCast S8x8x128 (transpose S8x8x4x32 [2, 1, 0, 3] (Value.reg_main_v17_1 m c) transposes_S4x8x8x32_S8x8x4x32_2_1_0_3)
      shapeCasts_S8x8x4x32_S8x8x128 (ix3 b q t) = Spec.code (argZ m c) (argD m c) (argE m c) q b t := by
  rw [shapeCast_apply _ _ (ix3 b q t) (ix4 b q (⟨t.val / 32, by omega⟩ : Fin 4) (⟨t.val % 32, by omega⟩ : Fin 32)) (by
    rw [Shape.rowMajor_val_three, Shape.rowMajor_val_four]
    show ((b.val * 8 + q.val) * 4 + t.val / 32) * 32 + t.val % 32 = (b.val * 8 + q.val) * 128 + t.val
    omega)]
  rw [transpose_apply _ _ _ (ix4 b q (⟨t.val / 32, by omega⟩ : Fin 4) (⟨t.val % 32, by omega⟩ : Fin 32))
    (ix4 (⟨t.val / 32, by omega⟩ : Fin 4) q b (⟨t.val % 32, by omega⟩ : Fin 32)) (fun a => by
    match a with
    | ⟨0, _⟩ => rfl
    | ⟨1, _⟩ => rfl
    | ⟨2, _⟩ => rfl
    | ⟨3, _⟩ => rfl)]
  refine (congrFun (codes_array m c) _).trans ?_
  refine congrArg (Spec.code (argZ m c) (argD m c) (argE m c) q b) (Fin.ext ?_)
  show 32 * (t.val / 32) + t.val % 32 = t.val
  omega

theorem result_loss (i : S_.Idx) :
    (Host.divf (shapeCast S_ (Value.reg_main_v17_2 m c) shapeCasts_S1x1_S_ : FVec Ideal S_ .f32) (constant S_ .f32 0x48800000#32) : FVec Ideal S_ .f32) i
      = Spec.loss (argZ m c) (argD m c) (argE m c) := by
  show Ideal.div ((shapeCast S_ (Value.reg_main_v17_2 m c) shapeCasts_S1x1_S_ : FVec Ideal S_ .f32) i) (Ideal.ofBits .f32 0x48800000#32) = _
  unfold Spec.loss
  exact congrArg (fun s => Ideal.div s (Ideal.ofBits .f32 0x48800000#32)) (congrFun (loss_array m c) _)

end Cert.KernelIdeal.Arrays

end
-- ==== Proof.RefOps.lean ====
/- The reference's operations in the order of the program, cut into stages; the named functions that the
   stages compute; and which buffers each stage touches. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## What the stages compute -/

/-- The down projection of the input by each quantiser's matrix: row `(m, b, t)`. -/
def down (x : FVec F S8x8192x128 .f32) (w : FVec F S8x32x1024 .f32) : FVec F S8x8x128x32 .f32 :=
  Host.dotGeneral dot_S8x128x8x1024_S8x32x1024_S8x8x128x32_3_2_01_1_2_0 none (shapeCast _ (shapeCast _ (shapeCast _ (shapeCast _ (transpose S8x512x128x16 [0, 2, 3, 1] (shapeCast _ x shapeCasts_S8x8192x128_S8x16x512x128) transposes_S8x16x512x128_S8x512x128x16_0_2_3_1) shapeCasts_S8x512x128x16_S8x512x2048) shapeCasts_S8x512x2048_S8x128x4x2048) shapeCasts_S8x128x4x2048_S8x128x8192) shapeCasts_S8x128x8192_S8x128x8x1024) w

/-- Each row over its norm. -/
def unitRows (z : FVec F S8x8x128x32 .f32) : FVec F S8x8x128x32 .f32 :=
  Host.divf z (broadcastInDim S8x8x128x32 ![0, 1, 2, 3] bcast_S8x8x128x1_S8x8x128x32_0_1_2_3 (addf (Host.sqrt (broadcastInDim S8x8x128x1 ![0, 1, 2] bcast_S8x8x128_S8x8x128x1_0_1_2 (Host.reduceAdd (mulf z z) (constant S_ .f32 0x00000000#32) reducesTo_S8x8x128x32_S8x8x128_d3 h_S_))) (broadcastInDim S8x8x128x1 ![] bcast_S_S8x8x128x1 (constant S_ .f32 0x322BCC77#32))))

/-- Each codebook row over its norm. -/
def unitBook (e : FVec F S8x1024x32 .f32) : FVec F S8x1024x32 .f32 :=
  Host.divf e (broadcastInDim S8x1024x32 ![0, 1, 2] bcast_S8x1024x1_S8x1024x32_0_1_2 (addf (Host.sqrt (broadcastInDim S8x1024x1 ![0, 1] bcast_S8x1024_S8x1024x1_0_1 (Host.reduceAdd (mulf e e) (constant S_ .f32 0x00000000#32) reducesTo_S8x1024x32_S8x1024_d2 h_S_))) (broadcastInDim S8x1024x1 ![] bcast_S_S8x1024x1 (constant S_ .f32 0x322BCC77#32))))

/-- The squared distance of every row to every codebook row. -/
def dist (n : FVec F S8x8x128x32 .f32) (e : FVec F S8x1024x32 .f32) : FVec F S8x8x128x1024 .f32 :=
  addf (subf (broadcastInDim S8x8x128x1024 ![0, 1, 2, 3] bcast_S8x8x128x1_S8x8x128x1024_0_1_2_3 (broadcastInDim S8x8x128x1 ![0, 1, 2] bcast_S8x8x128_S8x8x128x1_0_1_2 (Host.reduceAdd (mulf n n) (constant S_ .f32 0x00000000#32) reducesTo_S8x8x128x32_S8x8x128_d3 h_S_))) (mulf (broadcastInDim S8x8x128x1024 ![] bcast_S_S8x8x128x1024 (constant S_ .f32 0x40000000#32)) (Host.dotGeneral dot_S8x8x128x32_S8x1024x32_S8x8x128x1024_3_2_12_1_0_0 none n e))) (broadcastInDim S8x8x128x1024 ![0, 1, 2, 3] bcast_S8x1x1x1024_S8x8x128x1024_0_1_2_3 (broadcastInDim S8x1x1x1024 ![0, 3] bcast_S8x1024_S8x1x1x1024_0_3 (Host.reduceAdd (mulf e e) (constant S_ .f32 0x00000000#32) reducesTo_S8x1024x32_S8x1024_d2 h_S_)))

/-- The first codebook row of least distance. -/
def codes (d : FVec F S8x8x128x1024 .f32) : IVec S8x8x128 32 :=
  fun j => (Host.argReduce reducer_argmin_f32_i32 d (iotaInDim S8x8x128x1024 32 3) (constant S_ .f32 0x7F800000#32) (constantI S_ 32 0#32) reducesTo_S8x8x128x1024_S8x8x128_d3 h_S_ j).2

/-- The codes as gather indices: a negative one would count from the end. -/
def start (k : IVec S8x8x128 32) : IVec S8x8x128x1 32 :=
  broadcastInDim S8x8x128x1 ![0, 1, 2] bcast_S8x8x128_S8x8x128x1_0_1_2 (select (cmpi .slt k (broadcastInDim S8x8x128 ![] bcast_S_S8x8x128 (constantI S_ 32 0#32))) (addi k (broadcastInDim S8x8x128 ![] bcast_S_S8x8x128 (constantI S_ 32 1024#32))) k)

/-- The codebook rows at the gather indices; the fill value where an index is out of range. -/
def picked (e : FVec F S8x1024x32 .f32) (i : IVec S8x8x128x1 32) : FVec F S8x8x128x32 .f32 :=
  select (broadcastInDim S8x8x128x32 ![0, 1, 2] bcast_S8x8x128_S8x8x128x32_0_1_2 (Host.reduce IntOp.andi (andi (cmpi .sge i (broadcastInDim S8x8x128x1 ![] bcast_S_S8x8x128x1 (constantI S_ 32 0#32))) (cmpi .sle i (broadcastInDim S8x8x128x1 ![0, 1, 2, 3] bcast_S1x1x1x1_S8x8x128x1_0_1_2_3 (broadcastInDim S1x1x1x1 ![3] bcast_S1_S1x1x1x1_3 (constantI S1 32 1023#32))))) (constantI S_ 1 1#1) reducesTo_S8x8x128x1_S8x8x128_d3 h_S_)) (Host.gather gather_S8x1024x32_S8x8x128x1_S8x8x128x32_3_1_0_0_1_3_1132 e i) (broadcastInDim S8x8x128x32 ![] bcast_S_S8x8x128x32 (constant S_ .f32 0x7FC00000#32))

/-- Each quantiser's mean squared error. -/
def meanSq (p z : FVec F S8x8x128x32 .f32) : FVec F S8 .f32 :=
  Host.divf (Host.reduceAdd (mulf (subf p z) (subf p z)) (constant S_ .f32 0x00000000#32) reducesTo_S8x8x128x32_S8_d1_2_3 h_S_) (broadcastInDim S8 ![] bcast_S_S8 (constant S_ .f32 0x47000000#32))

/-- The straight-through rows. -/
def straight (p z : FVec F S8x8x128x32 .f32) : FVec F S8x8x128x32 .f32 := addf z (subf p z)

/-- The up projection, back in the input's layout. -/
def up (w : FVec F S8x1024x32 .f32) (r : FVec F S8x8x128x32 .f32) : FVec F S8x8192x128 .f32 :=
  shapeCast _ (transpose S8x16x512x128 [0, 3, 1, 2] (shapeCast _ (shapeCast _ (shapeCast _ (shapeCast _ (transpose S8x128x8x1024 [2, 3, 0, 1] (Host.dotGeneral dot_S8x1024x32_S8x8x128x32_S8x1024x8x128_2_3_1_12_0_0 none w r) transposes_S8x1024x8x128_S8x128x8x1024_2_3_0_1) shapeCasts_S8x128x8x1024_S8x128x8192) shapeCasts_S8x128x8192_S8x128x4x2048) shapeCasts_S8x128x4x2048_S8x512x2048) shapeCasts_S8x512x2048_S8x512x128x16) transposes_S8x512x128x16_S8x16x512x128_0_3_1_2) shapeCasts_S8x16x512x128_S8x8192x128

/-- The codes, batch first. -/
def codesOut (k : IVec S8x8x128 32) : IVec S8x8x128 32 := transpose S8x8x128 [1, 0, 2] k transposes_S8x8x128_S8x8x128_1_0_2

/-- The mean over the quantisers. -/
def meanOf (l : FVec F S8 .f32) : FVec F S_ .f32 :=
  Host.divf (Host.reduceAdd l (constant S_ .f32 0x00000000#32) reducesTo_S8_S_d0 h_S_) (constant S_ .f32 0x41000000#32)

/-! ## The stages -/

/-- The operations that compute the down projection. -/
abbrev opsDown : List (HloOp τ sig (Elt F)) :=
  [ reshape main_arg0 main_v0 (rfl : (.f32 : EltTy) = .f32) shapeCasts_S8x8192x128_S8x16x512x128,
    unary main_v0 main_v1 ((transpose S8x512x128x16 [0, 2, 3, 1] · transposes_S8x16x512x128_S8x512x128x16_0_2_3_1) : (⟨S8x16x512x128, .f32⟩ : BufTy).Contents (Elt F) → (⟨S8x512x128x16, .f32⟩ : BufTy).Contents (Elt F)),
    reshape main_v1 main_v2 (rfl : (.f32 : EltTy) = .f32) shapeCasts_S8x512x128x16_S8x512x2048,
    reshape main_v2 main_v3 (rfl : (.f32 : EltTy) = .f32) shapeCasts_S8x512x2048_S8x128x4x2048,
    reshape main_v3 main_v4 (rfl : (.f32 : EltTy) = .f32) shapeCasts_S8x128x4x2048_S8x128x8192,
    reshape main_v4 main_v5 (rfl : (.f32 : EltTy) = .f32) shapeCasts_S8x128x8192_S8x128x8x1024,
    binary main_v5 main_arg1 main_v6 ((fun l r => Host.dotGeneral dot_S8x128x8x1024_S8x32x1024_S8x8x128x32_3_2_01_1_2_0 none l r) : (⟨S8x128x8x1024, .f32⟩ : BufTy).Contents (Elt F) → (⟨S8x32x1024, .f32⟩ : BufTy).Contents (Elt F) → (⟨S8x8x128x32, .f32⟩ : BufTy).Contents (Elt F)) ]

/-- The buffers that `opsDown` writes. -/
abbrev wrDown : List (Ref sig .tc) := [main_v0, main_v1, main_v2, main_v3, main_v4, main_v5, main_v6]

/-- The operations that compute the projected rows, normalised. -/
abbrev opsUnit : List (HloOp τ sig (Elt F)) :=
  [ TRef.binary (TRef.of (T := ⟨S8x8x128x32, .f32⟩) main_v6) (TRef.of (T := ⟨S8x8x128x32, .f32⟩) main_v6) (TRef.of (T := ⟨S8x8x128x32, .f32⟩) main_call0_v0) mulf,
    TRef.nullary (TRef.of (T := ⟨S_, .f32⟩) main_call0_cst) (constant S_ .f32 0x00000000#32),
    TRef.binary (TRef.of (T := ⟨S8x8x128x32, .f32⟩) main_call0_v0) (TRef.of (T := ⟨S_, .f32⟩) main_call0_cst) (TRef.of (T := ⟨S8x8x128, .f32⟩) main_call0_v1) (fun x v => Host.reduceAdd x v reducesTo_S8x8x128x32_S8x8x128_d3 h_S_),
    TRef.unary (TRef.of (T := ⟨S8x8x128, .f32⟩) main_call0_v1) (TRef.of (T := ⟨S8x8x128x1, .f32⟩) main_call0_v2) (broadcastInDim S8x8x128x1 ![0, 1, 2] bcast_S8x8x128_S8x8x128x1_0_1_2),
    TRef.unary (TRef.of (T := ⟨S8x8x128x1, .f32⟩) main_call0_v2) (TRef.of (T := ⟨S8x8x128x1, .f32⟩) main_v7) Host.sqrt,
    nullary main_cst (constant S_ .f32 0x322BCC77#32),
    unary main_cst main_v8 (broadcastInDim S8x8x128x1 ![] bcast_S_S8x8x128x1 : (⟨S_, .f32⟩ : BufTy).Contents (Elt F) → (⟨S8x8x128x1, .f32⟩ : BufTy).Contents (Elt F)),
    binary main_v7 main_v8 main_v9 (addf : (⟨S8x8x128x1, .f32⟩ : BufTy).Contents (Elt F) → (⟨S8x8x128x1, .f32⟩ : BufTy).Contents (Elt F) → (⟨S8x8x128x1, .f32⟩ : BufTy).Contents (Elt F)),
    unary main_v9 main_v10 (broadcastInDim S8x8x128x32 ![0, 1, 2, 3] bcast_S8x8x128x1_S8x8x128x32_0_1_2_3 : (⟨S8x8x128x1, .f32⟩ : BufTy).Contents (Elt F) → (⟨S8x8x128x32, .f32⟩ : BufTy).Contents (Elt F)),
    binary main_v6 main_v10 main_v11 (Host.divf : (⟨S8x8x128x32, .f32⟩ : BufTy).Contents (Elt F) → (⟨S8x8x128x32, .f32⟩ : BufTy).Contents (Elt F) → (⟨S8x8x128x32, .f32⟩ : BufTy).Contents (Elt F)) ]

/-- The buffers that `opsUnit` writes. -/
abbrev wrUnit : List (Ref sig .tc) := [main_call0_v0, main_call0_cst, main_call0_v1, main_call0_v2, main_v7, main_cst, main_v8, main_v9, main_v10, main_v11]

/-- The operations that compute the codebooks, normalised. -/
abbrev opsBook : List (HloOp τ sig (Elt F)) :=
  [ TRef.binary (TRef.of (T := ⟨S8x1024x32, .f32⟩) main_arg3) (TRef.of (T := ⟨S8x1024x32, .f32⟩) main_arg3) (TRef.of (T := ⟨S8x1024x32, .f32⟩) main_call1_v0) mulf,
    TRef.nullary (TRef.of (T := ⟨S_, .f32⟩) main_call1_cst) (constant S_ .f32 0x00000000#32),
    TRef.binary (TRef.of (T := ⟨S8x1024x32, .f32⟩) main_call1_v0) (TRef.of (T := ⟨S_, .f32⟩) main_call1_cst) (TRef.of (T := ⟨S8x1024, .f32⟩) main_call1_v1) (fun x v => Host.reduceAdd x v reducesTo_S8x1024x32_S8x1024_d2 h_S_),
    TRef.unary (TRef.of (T := ⟨S8x1024, .f32⟩) main_call1_v1) (TRef.of (T := ⟨S8x1024x1, .f32⟩) main_call1_v2) (broadcastInDim S8x1024x1 ![0, 1] bcast_S8x1024_S8x1024x1_0_1),
    TRef.unary (TRef.of (T := ⟨S8x1024x1, .f32⟩) main_call1_v2) (TRef.of (T := ⟨S8x1024x1, .f32⟩) main_v12) Host.sqrt,
    nullary main_cst_0 (constant S_ .f32 0x322BCC77#32),
    unary main_cst_0 main_v13 (broadcastInDim S8x1024x1 ![] bcast_S_S8x1024x1 : (⟨S_, .f32⟩ : BufTy).Contents (Elt F) → (⟨S8x1024x1, .f32⟩ : BufTy).Contents (Elt F)),
    binary main_v12 main_v13 main_v14 (addf : (⟨S8x1024x1, .f32⟩ : BufTy).Contents (Elt F) → (⟨S8x1024x1, .f32⟩ : BufTy).Contents (Elt F) → (⟨S8x1024x1, .f32⟩ : BufTy).Contents (Elt F)),
    unary main_v14 main_v15 (broadcastInDim S8x1024x32 ![0, 1, 2] bcast_S8x1024x1_S8x1024x32_0_1_2 : (⟨S8x1024x1, .f32⟩ : BufTy).Contents (Elt F) → (⟨S8x1024x32, .f32⟩ : BufTy).Contents (Elt F)),
    binary main_arg3 main_v15 main_v16 (Host.divf : (⟨S8x1024x32, .f32⟩ : BufTy).Contents (Elt F) → (⟨S8x1024x32, .f32⟩ : BufTy).Contents (Elt F) → (⟨S8x1024x32, .f32⟩ : BufTy).Contents (Elt F)) ]

/-- The buffers that `opsBook` writes. -/
abbrev wrBook : List (Ref sig .tc) := [main_call1_v0, main_call1_cst, main_call1_v1, main_call1_v2, main_v12, main_cst_0, main_v13, main_v14, main_v15, main_v16]

/-- The operations that compute the distances. -/
abbrev opsDist : List (HloOp τ sig (Elt F)) :=
  [ binary main_v11 main_v11 main_v17 (mulf : (⟨S8x8x128x32, .f32⟩ : BufTy).Contents (Elt F) → (⟨S8x8x128x32, .f32⟩ : BufTy).Contents (Elt F) → (⟨S8x8x128x32, .f32⟩ : BufTy).Contents (Elt F)),
    nullary main_cst_1 (constant S_ .f32 0x00000000#32),
    binary main_v17 main_cst_1 main_v18 ((fun x v => Host.reduceAdd x v reducesTo_S8x8x128x32_S8x8x128_d3 h_S_) : (⟨S8x8x128x32, .f32⟩ : BufTy).Contents (Elt F) → (⟨S_, .f32⟩ : BufTy).Contents (Elt F) → (⟨S8x8x128, .f32⟩ : BufTy).Contents (Elt F)),
    unary main_v18 main_v19 (broadcastInDim S8x8x128x1 ![0, 1, 2] bcast_S8x8x128_S8x8x128x1_0_1_2 : (⟨S8x8x128, .f32⟩ : BufTy).Contents (Elt F) → (⟨S8x8x128x1, .f32⟩ : BufTy).Contents (Elt F)),
    binary main_v11 main_v16 main_v20 ((fun l r => Host.dotGeneral dot_S8x8x128x32_S8x1024x32_S8x8x128x1024_3_2_12_1_0_0 none l r) : (⟨S8x8x128x32, .f32⟩ : BufTy).Contents (Elt F) → (⟨S8x1024x32, .f32⟩ : BufTy).Contents (Elt F) → (⟨S8x8x128x1024, .f32⟩ : BufTy).Contents (Elt F)),
    nullary main_cst_2 (constant S_ .f32 0x40000000#32),
    unary main_cst_2 main_v21 (broadcastInDim S8x8x128x1024 ![] bcast_S_S8x8x128x1024 : (⟨S_, .f32⟩ : BufTy).Contents (Elt F) → (⟨S8x8x128x1024, .f32⟩ : BufTy).Contents (Elt F)),
    binary main_v21 main_v20 main_v22 (mulf : (⟨S8x8x128x1024, .f32⟩ : BufTy).Contents (Elt F) → (⟨S8x8x128x1024, .f32⟩ : BufTy).Contents (Elt F) → (⟨S8x8x128x1024, .f32⟩ : BufTy).Contents (Elt F)),
    unary main_v19 main_v23 (broadcastInDim S8x8x128x1024 ![0, 1, 2, 3] bcast_S8x8x128x1_S8x8x128x1024_0_1_2_3 : (⟨S8x8x128x1, .f32⟩ : BufTy).Contents (Elt F) → (⟨S8x8x128x1024, .f32⟩ : BufTy).Contents (Elt F)),
    binary main_v23 main_v22 main_v24 (subf : (⟨S8x8x128x1024, .f32⟩ : BufTy).Contents (Elt F) → (⟨S8x8x128x1024, .f32⟩ : BufTy).Contents (Elt F) → (⟨S8x8x128x1024, .f32⟩ : BufTy).Contents (Elt F)),
    binary main_v16 main_v16 main_v25 (mulf : (⟨S8x1024x32, .f32⟩ : BufTy).Contents (Elt F) → (⟨S8x1024x32, .f32⟩ : BufTy).Contents (Elt F) → (⟨S8x1024x32, .f32⟩ : BufTy).Contents (Elt F)),
    nullary main_cst_3 (constant S_ .f32 0x00000000#32),
    binary main_v25 main_cst_3 main_v26 ((fun x v => Host.reduceAdd x v reducesTo_S8x1024x32_S8x1024_d2 h_S_) : (⟨S8x1024x32, .f32⟩ : BufTy).Contents (Elt F) → (⟨S_, .f32⟩ : BufTy).Contents (Elt F) → (⟨S8x1024, .f32⟩ : BufTy).Contents (Elt F)),
    unary main_v26 main_v27 (broadcastInDim S8x1x1x1024 ![0, 3] bcast_S8x1024_S8x1x1x1024_0_3 : (⟨S8x1024, .f32⟩ : BufTy).Contents (Elt F) → (⟨S8x1x1x1024, .f32⟩ : BufTy).Contents (Elt F)),
    unary main_v27 main_v28 (broadcastInDim S8x8x128x1024 ![0, 1, 2, 3] bcast_S8x1x1x1024_S8x8x128x1024_0_1_2_3 : (⟨S8x1x1x1024, .f32⟩ : BufTy).Contents (Elt F) → (⟨S8x8x128x1024, .f32⟩ : BufTy).Contents (Elt F)),
    binary main_v24 main_v28 main_v29 (addf : (⟨S8x8x128x1024, .f32⟩ : BufTy).Contents (Elt F) → (⟨S8x8x128x1024, .f32⟩ : BufTy).Contents (Elt F) → (⟨S8x8x128x1024, .f32⟩ : BufTy).Contents (Elt F)) ]

/-- The buffers that `opsDist` writes. -/
abbrev wrDist : List (Ref sig .tc) := [main_v17, main_cst_1, main_v18, main_v19, main_v20, main_cst_2, main_v21, main_v22, main_v23, main_v24, main_v25, main_cst_3, main_v26, main_v27, main_v28, main_v29]

/-- The operations that compute the codes. -/
abbrev opsCode : List (HloOp τ sig (Elt F)) :=
  [ TRef.nullary (TRef.of (T := ⟨S8x8x128x1024, .i32⟩) main_call2_v0) (iotaInDim S8x8x128x1024 32 3),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S8x8x128x1024, .f32⟩) main_v29) (TRef.of (T := ⟨S8x8x128x1024, .i32⟩) main_call2_v0) (TRef.of (T := ⟨S_, .f32⟩) main_call2_cst) (TRef.of (T := ⟨S_, .i32⟩) main_call2_c) (TRef.of (T := ⟨S8x8x128, .f32⟩) main_call2_v1_0) (fun x y u v j => (Host.argReduce reducer_argmin_f32_i32 x y u v reducesTo_S8x8x128x1024_S8x8x128_d3 h_S_ j).1),
    TRef.quaternary (TRef.of (T := ⟨S8x8x128x1024, .f32⟩) main_v29) (TRef.of (T := ⟨S8x8x128x1024, .i32⟩) main_call2_v0) (TRef.of (T := ⟨S_, .f32⟩) main_call2_cst) (TRef.of (T := ⟨S_, .i32⟩) main_call2_c) (TRef.of (T := ⟨S8x8x128, .i32⟩) main_v30) (fun x y u v j => (Host.argReduce reducer_argmin_f32_i32 x y u v reducesTo_S8x8x128x1024_S8x8x128_d3 h_S_ j).2) ]

/-- The buffers that `opsCode` writes. -/
abbrev wrCode : List (Ref sig .tc) := [main_call2_v0, main_call2_cst, main_call2_c, main_call2_v1_0, main_v30]

/-- The operations that compute the codes as gather indices. -/
abbrev opsStart : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S8x8x128, .i32⟩) main_call3_v0) (broadcastInDim S8x8x128 ![] bcast_S_S8x8x128),
    TRef.binary (TRef.of (T := ⟨S8x8x128, .i32⟩) main_v30) (TRef.of (T := ⟨S8x8x128, .i32⟩) main_call3_v0) (TRef.of (T := ⟨S8x8x128, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S8x8x128, .i32⟩) main_call3_v2) (broadcastInDim S8x8x128 ![] bcast_S_S8x8x128),
    TRef.binary (TRef.of (T := ⟨S8x8x128, .i32⟩) main_v30) (TRef.of (T := ⟨S8x8x128, .i32⟩) main_call3_v2) (TRef.of (T := ⟨S8x8x128, .i32⟩) main_call3_v3) addi,
    TRef.ternary (TRef.of (T := ⟨S8x8x128, .i1⟩) main_call3_v1) (TRef.of (T := ⟨S8x8x128, .i32⟩) main_call3_v3) (TRef.of (T := ⟨S8x8x128, .i32⟩) main_v30) (TRef.of (T := ⟨S8x8x128, .i32⟩) main_call3_v4) select,
    TRef.unary (TRef.of (T := ⟨S8x8x128, .i32⟩) main_call3_v4) (TRef.of (T := ⟨S8x8x128x1, .i32⟩) main_call3_v5) (broadcastInDim S8x8x128x1 ![0, 1, 2] bcast_S8x8x128_S8x8x128x1_0_1_2) ]

/-- The buffers that `opsStart` writes. -/
abbrev wrStart : List (Ref sig .tc) := [main_call3_c, main_call3_v0, main_call3_v1, main_call3_c_0, main_call3_v2, main_call3_v3, main_call3_v4, main_call3_v5]

/-- The operations that compute the picked codebook rows. -/
abbrev opsPick : List (HloOp τ sig (Elt F)) :=
  [ TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S8x8x128x1, .i32⟩) main_call3_v6) (broadcastInDim S8x8x128x1 ![] bcast_S_S8x8x128x1),
    TRef.binary (TRef.of (T := ⟨S8x8x128x1, .i32⟩) main_call3_v5) (TRef.of (T := ⟨S8x8x128x1, .i32⟩) main_call3_v6) (TRef.of (T := ⟨S8x8x128x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S8x8x128x1, .i32⟩) main_call3_v9) (broadcastInDim S8x8x128x1 ![0, 1, 2, 3] bcast_S1x1x1x1_S8x8x128x1_0_1_2_3),
    TRef.binary (TRef.of (T := ⟨S8x8x128x1, .i32⟩) main_call3_v5) (TRef.of (T := ⟨S8x8x128x1, .i32⟩) main_call3_v9) (TRef.of (T := ⟨S8x8x128x1, .i1⟩) main_call3_v10) (cmpi .sle),
    TRef.binary (TRef.of (T := ⟨S8x8x128x1, .i1⟩) main_call3_v7) (TRef.of (T := ⟨S8x8x128x1, .i1⟩) main_call3_v10) (TRef.of (T := ⟨S8x8x128x1, .i1⟩) main_call3_v11) andi,
    TRef.nullary (TRef.of (T := ⟨S_, .i1⟩) main_call3_c_3) (constantI S_ 1 1#1),
    TRef.binary (TRef.of (T := ⟨S8x8x128x1, .i1⟩) main_call3_v11) (TRef.of (T := ⟨S_, .i1⟩) main_call3_c_3) (TRef.of (T := ⟨S8x8x128, .i1⟩) main_call3_v12) (fun x v => Host.reduce IntOp.andi x v reducesTo_S8x8x128x1_S8x8x128_d3 h_S_),
    TRef.binary (TRef.of (T := ⟨S8x1024x32, .f32⟩) main_v16) (TRef.of (T := ⟨S8x8x128x1, .i32⟩) main_call3_v5) (TRef.of (T := ⟨S8x8x128x32, .f32⟩) main_call3_v13) (fun x i => Host.gather gather_S8x1024x32_S8x8x128x1_S8x8x128x32_3_1_0_0_1_3_1132 x i),
    TRef.unary (TRef.of (T := ⟨S8x8x128, .i1⟩) main_call3_v12) (TRef.of (T := ⟨S8x8x128x32, .i1⟩) main_call3_v14) (broadcastInDim S8x8x128x32 ![0, 1, 2] bcast_S8x8x128_S8x8x128x32_0_1_2),
    TRef.nullary (TRef.of (T := ⟨S_, .f32⟩) main_call3_cst) (constant S_ .f32 0x7FC00000#32),
    TRef.unary (TRef.of (T := ⟨S_, .f32⟩) main_call3_cst) (TRef.of (T := ⟨S8x8x128x32, .f32⟩) main_call3_v15) (broadcastInDim S8x8x128x32 ![] bcast_S_S8x8x128x32),
    TRef.ternary (TRef.of (T := ⟨S8x8x128x32, .i1⟩) main_call3_v14) (TRef.of (T := ⟨S8x8x128x32, .f32⟩) main_call3_v13) (TRef.of (T := ⟨S8x8x128x32, .f32⟩) main_call3_v15) (TRef.of (T := ⟨S8x8x128x32, .f32⟩) main_v31) select ]

/-- The buffers that `opsPick` writes. -/
abbrev wrPick : List (Ref sig .tc) := [main_call3_c_1, main_call3_c_2, main_call3_v6, main_call3_v7, main_call3_v8, main_call3_v9, main_call3_v10, main_call3_v11, main_call3_c_3, main_call3_v12, main_call3_v13, main_call3_v14, main_call3_cst, main_call3_v15, main_v31]

/-- The operations that compute the first mean squared errors. -/
abbrev opsLoss : List (HloOp τ sig (Elt F)) :=
  [ binary main_v31 main_v6 main_v32 (subf : (⟨S8x8x128x32, .f32⟩ : BufTy).Contents (Elt F) → (⟨S8x8x128x32, .f32⟩ : BufTy).Contents (Elt F) → (⟨S8x8x128x32, .f32⟩ : BufTy).Contents (Elt F)),
    binary main_v32 main_v32 main_v33 (mulf : (⟨S8x8x128x32, .f32⟩ : BufTy).Contents (Elt F) → (⟨S8x8x128x32, .f32⟩ : BufTy).Contents (Elt F) → (⟨S8x8x128x32, .f32⟩ : BufTy).Contents (Elt F)),
    nullary main_cst_4 (constant S_ .f32 0x00000000#32),
    binary main_v33 main_cst_4 main_v34 ((fun x v => Host.reduceAdd x v reducesTo_S8x8x128x32_S8_d1_2_3 h_S_) : (⟨S8x8x128x32, .f32⟩ : BufTy).Contents (Elt F) → (⟨S_, .f32⟩ : BufTy).Contents (Elt F) → (⟨S8, .f32⟩ : BufTy).Contents (Elt F)),
    nullary main_cst_5 (constant S_ .f32 0x47000000#32),
    unary main_cst_5 main_v35 (broadcastInDim S8 ![] bcast_S_S8 : (⟨S_, .f32⟩ : BufTy).Contents (Elt F) → (⟨S8, .f32⟩ : BufTy).Contents (Elt F)),
    binary main_v34 main_v35 main_v36 (Host.divf : (⟨S8, .f32⟩ : BufTy).Contents (Elt F) → (⟨S8, .f32⟩ : BufTy).Contents (Elt F) → (⟨S8, .f32⟩ : BufTy).Contents (Elt F)) ]

/-- The buffers that `opsLoss` writes. -/
abbrev wrLoss : List (Ref sig .tc) := [main_v32, main_v33, main_cst_4, main_v34, main_cst_5, main_v35, main_v36]

/-- The operations that compute the second mean squared errors. -/
abbrev opsLoss2 : List (HloOp τ sig (Elt F)) :=
  [ binary main_v31 main_v6 main_v37 (subf : (⟨S8x8x128x32, .f32⟩ : BufTy).Contents (Elt F) → (⟨S8x8x128x32, .f32⟩ : BufTy).Contents (Elt F) → (⟨S8x8x128x32, .f32⟩ : BufTy).Contents (Elt F)),
    binary main_v37 main_v37 main_v38 (mulf : (⟨S8x8x128x32, .f32⟩ : BufTy).Contents (Elt F) → (⟨S8x8x128x32, .f32⟩ : BufTy).Contents (Elt F) → (⟨S8x8x128x32, .f32⟩ : BufTy).Contents (Elt F)),
    nullary main_cst_6 (constant S_ .f32 0x00000000#32),
    binary main_v38 main_cst_6 main_v39 ((fun x v => Host.reduceAdd x v reducesTo_S8x8x128x32_S8_d1_2_3 h_S_) : (⟨S8x8x128x32, .f32⟩ : BufTy).Contents (Elt F) → (⟨S_, .f32⟩ : BufTy).Contents (Elt F) → (⟨S8, .f32⟩ : BufTy).Contents (Elt F)),
    nullary main_cst_7 (constant S_ .f32 0x47000000#32),
    unary main_cst_7 main_v40 (broadcastInDim S8 ![] bcast_S_S8 : (⟨S_, .f32⟩ : BufTy).Contents (Elt F) → (⟨S8, .f32⟩ : BufTy).Contents (Elt F)),
    binary main_v39 main_v40 main_v41 (Host.divf : (⟨S8, .f32⟩ : BufTy).Contents (Elt F) → (⟨S8, .f32⟩ : BufTy).Contents (Elt F) → (⟨S8, .f32⟩ : BufTy).Contents (Elt F)) ]

/-- The buffers that `opsLoss2` writes. -/
abbrev wrLoss2 : List (Ref sig .tc) := [main_v37, main_v38, main_cst_6, main_v39, main_cst_7, main_v40, main_v41]

/-- The operations that compute the straight-through rows. -/
abbrev opsStraight : List (HloOp τ sig (Elt F)) :=
  [ binary main_v31 main_v6 main_v42 (subf : (⟨S8x8x128x32, .f32⟩ : BufTy).Contents (Elt F) → (⟨S8x8x128x32, .f32⟩ : BufTy).Contents (Elt F) → (⟨S8x8x128x32, .f32⟩ : BufTy).Contents (Elt F)),
    binary main_v6 main_v42 main_v43 (addf : (⟨S8x8x128x32, .f32⟩ : BufTy).Contents (Elt F) → (⟨S8x8x128x32, .f32⟩ : BufTy).Contents (Elt F) → (⟨S8x8x128x32, .f32⟩ : BufTy).Contents (Elt F)) ]

/-- The buffers that `opsStraight` writes. -/
abbrev wrStraight : List (Ref sig .tc) := [main_v42, main_v43]

/-- The operations that compute the up projection. -/
abbrev opsUp : List (HloOp τ sig (Elt F)) :=
  [ binary main_arg2 main_v43 main_v44 ((fun l r => Host.dotGeneral dot_S8x1024x32_S8x8x128x32_S8x1024x8x128_2_3_1_12_0_0 none l r) : (⟨S8x1024x32, .f32⟩ : BufTy).Contents (Elt F) → (⟨S8x8x128x32, .f32⟩ : BufTy).Contents (Elt F) → (⟨S8x1024x8x128, .f32⟩ : BufTy).Contents (Elt F)),
    unary main_v44 main_v45 ((transpose S8x128x8x1024 [2, 3, 0, 1] · transposes_S8x1024x8x128_S8x128x8x1024_2_3_0_1) : (⟨S8x1024x8x128, .f32⟩ : BufTy).Contents (Elt F) → (⟨S8x128x8x1024, .f32⟩ : BufTy).Contents (Elt F)),
    reshape main_v45 main_v46 (rfl : (.f32 : EltTy) = .f32) shapeCasts_S8x128x8x1024_S8x128x8192,
    reshape main_v46 main_v47 (rfl : (.f32 : EltTy) = .f32) shapeCasts_S8x128x8192_S8x128x4x2048,
    reshape main_v47 main_v48 (rfl : (.f32 : EltTy) = .f32) shapeCasts_S8x128x4x2048_S8x512x2048,
    reshape main_v48 main_v49 (rfl : (.f32 : EltTy) = .f32) shapeCasts_S8x512x2048_S8x512x128x16,
    unary main_v49 main_v50 ((transpose S8x16x512x128 [0, 3, 1, 2] · transposes_S8x512x128x16_S8x16x512x128_0_3_1_2) : (⟨S8x512x128x16, .f32⟩ : BufTy).Contents (Elt F) → (⟨S8x16x512x128, .f32⟩ : BufTy).Contents (Elt F)) ]

/-- The buffers that `opsUp` writes. -/
abbrev wrUp : List (Ref sig .tc) := [main_v44, main_v45, main_v46, main_v47, main_v48, main_v49, main_v50]

/-- The operations that compute the results. -/
abbrev opsEnd : List (HloOp τ sig (Elt F)) :=
  [ reshape main_v50 main_v51 (rfl : (.f32 : EltTy) = .f32) shapeCasts_S8x16x512x128_S8x8192x128,
    unary main_v30 main_v52 ((transpose S8x8x128 [1, 0, 2] · transposes_S8x8x128_S8x8x128_1_0_2) : (⟨S8x8x128, .i32⟩ : BufTy).Contents (Elt F) → (⟨S8x8x128, .i32⟩ : BufTy).Contents (Elt F)),
    nullary main_cst_8 (constant S_ .f32 0x00000000#32),
    binary main_v36 main_cst_8 main_v53 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_9 (constant S_ .f32 0x41000000#32),
    binary main_v53 main_cst_9 main_v54 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    binary main_v41 main_cst_10 main_v55 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_11 (constant S_ .f32 0x41000000#32),
    binary main_v55 main_cst_11 main_v56 (Host.divf : (⟨S_, .f32⟩ : BufTy).Contents (Elt F) → (⟨S_, .f32⟩ : BufTy).Contents (Elt F) → (⟨S_, .f32⟩ : BufTy).Contents (Elt F)) ]

/-- The buffers that `opsEnd` writes. -/
abbrev wrEnd : List (Ref sig .tc) := [main_v51, main_v52, main_cst_8, main_v53, main_cst_9, main_v54, main_cst_10, main_v55, main_cst_11, main_v56]

/-- The operations before the results. -/
def ops0 : List (HloOp τ sig (Elt F)) :=
  opsDown ++ (opsUnit ++ (opsBook ++ (opsDist ++ (opsCode ++ (opsStart ++ (opsPick ++ (opsLoss ++ (opsLoss2 ++ (opsStraight ++ (opsUp))))))))))

/-- The whole program's operations. -/
abbrev ops : List (HloOp τ sig (Elt F)) := ops0 ++ opsEnd

set_option maxRecDepth 8192 in
set_option maxHeartbeats 4000000 in
theorem main_part0_eq (c : Dev nD) : main_part0 (F := F) c = seq ops0 := rfl
set_option maxRecDepth 8192 in
theorem main_part1_eq (c : Dev nD) : main_part1 (F := F) c = seq opsEnd := rfl
set_option maxRecDepth 8192 in
theorem main_eq (c : Dev nD) : main (F := F) c = seq ops := by
  simp only [ops, seq_append, ← main_part0_eq c, ← main_part1_eq c]
  rfl

theorem no_scoped_refs : (Finset.univ.filter fun b : Ref sig .tc => b.isScoped) = ∅ := by decide
theorem no_scoped_sems : (Finset.univ.filter fun s : SemLoc sig => s.isScoped .tc) = ∅ := by decide

/-! ## The buffers they touch -/

set_option maxRecDepth 8192 in
theorem subDown : (opsDown : List (HloOp τ sig (Elt F))).Forall fun op => op.bufs ⊆ tcRefs τ sig :=
  ⟨reshape_bufs_sub .., unary_bufs_sub .., reshape_bufs_sub .., reshape_bufs_sub .., reshape_bufs_sub .., reshape_bufs_sub .., binary_bufs_sub ..⟩
theorem freshDown : (opsDown : List (HloOp τ sig (Elt F))).Forall fun op => op.fresh = ∅ :=
  ⟨rfl, rfl, rfl, rfl, rfl, rfl, rfl⟩
set_option maxRecDepth 8192 in
/-- A buffer that the stage does not write keeps its contents. -/
theorem keepDown (V : Valuation τ sig (Elt F)) (r : Ref sig .tc) (h : r ∉ wrDown) :
    after opsDown V (no_index (Proc.devRef .tc r)) = V (Proc.devRef .tc r) :=
  after_of_writes_sub (W := wrDown) opsDown V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subUnit : (opsUnit : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem freshUnit : (opsUnit : List (HloOp τ sig (Elt F))).Forall fun op => op.fresh = ∅ :=
  ⟨rfl, rfl, rfl, rfl, rfl, rfl, rfl, rfl, rfl, rfl⟩
set_option maxRecDepth 8192 in
/-- A buffer that the stage does not write keeps its contents. -/
theorem keepUnit (V : Valuation τ sig (Elt F)) (r : Ref sig .tc) (h : r ∉ wrUnit) :
    after opsUnit V (no_index (Proc.devRef .tc r)) = V (Proc.devRef .tc r) :=
  after_of_writes_sub (W := wrUnit) opsUnit V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subBook : (opsBook : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩
theorem freshBook : (opsBook : List (HloOp τ sig (Elt F))).Forall fun op => op.fresh = ∅ :=
  ⟨rfl, rfl, rfl, rfl, rfl, rfl, rfl, rfl, rfl, rfl⟩
set_option maxRecDepth 8192 in
/-- A buffer that the stage does not write keeps its contents. -/
theorem keepBook (V : Valuation τ sig (Elt F)) (r : Ref sig .tc) (h : r ∉ wrBook) :
    after opsBook V (no_index (Proc.devRef .tc r)) = V (Proc.devRef .tc r) :=
  after_of_writes_sub (W := wrBook) opsBook V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subDist : (opsDist : List (HloOp τ sig (Elt F))).Forall fun op => op.bufs ⊆ tcRefs τ sig :=
  ⟨binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem freshDist : (opsDist : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
/-- A buffer that the stage does not write keeps its contents. -/
theorem keepDist (V : Valuation τ sig (Elt F)) (r : Ref sig .tc) (h : r ∉ wrDist) :
    after opsDist V (no_index (Proc.devRef .tc r)) = V (Proc.devRef .tc r) :=
  after_of_writes_sub (W := wrDist) opsDist V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subCode : (opsCode : List (HloOp τ sig (Elt F))).Forall fun op => op.bufs ⊆ tcRefs τ sig :=
  ⟨nullary_bufs_sub .., nullary_bufs_sub .., nullary_bufs_sub .., quaternary_bufs_sub .., quaternary_bufs_sub ..⟩
theorem freshCode : (opsCode : List (HloOp τ sig (Elt F))).Forall fun op => op.fresh = ∅ :=
  ⟨rfl, rfl, rfl, rfl, rfl⟩
set_option maxRecDepth 8192 in
/-- A buffer that the stage does not write keeps its contents. -/
theorem keepCode (V : Valuation τ sig (Elt F)) (r : Ref sig .tc) (h : r ∉ wrCode) :
    after opsCode V (no_index (Proc.devRef .tc r)) = V (Proc.devRef .tc r) :=
  after_of_writes_sub (W := wrCode) opsCode V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subStart : (opsStart : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem freshStart : (opsStart : List (HloOp τ sig (Elt F))).Forall fun op => op.fresh = ∅ :=
  ⟨rfl, rfl, rfl, rfl, rfl, rfl, rfl, rfl⟩
set_option maxRecDepth 8192 in
/-- A buffer that the stage does not write keeps its contents. -/
theorem keepStart (V : Valuation τ sig (Elt F)) (r : Ref sig .tc) (h : r ∉ wrStart) :
    after opsStart V (no_index (Proc.devRef .tc r)) = V (Proc.devRef .tc r) :=
  after_of_writes_sub (W := wrStart) opsStart V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subPick : (opsPick : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem freshPick : (opsPick : List (HloOp τ sig (Elt F))).Forall fun op => op.fresh = ∅ :=
  ⟨rfl, rfl, rfl, rfl, rfl, rfl, rfl, rfl, rfl, rfl, rfl, rfl, rfl, rfl, rfl⟩
set_option maxRecDepth 8192 in
/-- A buffer that the stage does not write keeps its contents. -/
theorem keepPick (V : Valuation τ sig (Elt F)) (r : Ref sig .tc) (h : r ∉ wrPick) :
    after opsPick V (no_index (Proc.devRef .tc r)) = V (Proc.devRef .tc r) :=
  after_of_writes_sub (W := wrPick) opsPick V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subLoss : (opsLoss : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub ..⟩
theorem freshLoss : (opsLoss : List (HloOp τ sig (Elt F))).Forall fun op => op.fresh = ∅ :=
  ⟨rfl, rfl, rfl, rfl, rfl, rfl, rfl⟩
set_option maxRecDepth 8192 in
/-- A buffer that the stage does not write keeps its contents. -/
theorem keepLoss (V : Valuation τ sig (Elt F)) (r : Ref sig .tc) (h : r ∉ wrLoss) :
    after opsLoss V (no_index (Proc.devRef .tc r)) = V (Proc.devRef .tc r) :=
  after_of_writes_sub (W := wrLoss) opsLoss V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subLoss2 : (opsLoss2 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub ..⟩
theorem freshLoss2 : (opsLoss2 : List (HloOp τ sig (Elt F))).Forall fun op => op.fresh = ∅ :=
  ⟨rfl, rfl, rfl, rfl, rfl, rfl, rfl⟩
set_option maxRecDepth 8192 in
/-- A buffer that the stage does not write keeps its contents. -/
theorem keepLoss2 (V : Valuation τ sig (Elt F)) (r : Ref sig .tc) (h : r ∉ wrLoss2) :
    after opsLoss2 V (no_index (Proc.devRef .tc r)) = V (Proc.devRef .tc r) :=
  after_of_writes_sub (W := wrLoss2) opsLoss2 V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subStraight : (opsStraight : List (HloOp τ sig (Elt F))).Forall fun op => op.bufs ⊆ tcRefs τ sig :=
  ⟨binary_bufs_sub .., binary_bufs_sub ..⟩
theorem freshStraight : (opsStraight : List (HloOp τ sig (Elt F))).Forall fun op => op.fresh = ∅ :=
  ⟨rfl, rfl⟩
set_option maxRecDepth 8192 in
/-- A buffer that the stage does not write keeps its contents. -/
theorem keepStraight (V : Valuation τ sig (Elt F)) (r : Ref sig .tc) (h : r ∉ wrStraight) :
    after opsStraight V (no_index (Proc.devRef .tc r)) = V (Proc.devRef .tc r) :=
  after_of_writes_sub (W := wrStraight) opsStraight V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subUp : (opsUp : List (HloOp τ sig (Elt F))).Forall fun op => op.bufs ⊆ tcRefs τ sig :=
  ⟨binary_bufs_sub .., unary_bufs_sub .., reshape_bufs_sub .., reshape_bufs_sub .., reshape_bufs_sub .., reshape_bufs_sub .., unary_bufs_sub ..⟩
theorem freshUp : (opsUp : List (HloOp τ sig (Elt F))).Forall fun op => op.fresh = ∅ :=
  ⟨rfl, rfl, rfl, rfl, rfl, rfl, rfl⟩
set_option maxRecDepth 8192 in
/-- A buffer that the stage does not write keeps its contents. -/
theorem keepUp (V : Valuation τ sig (Elt F)) (r : Ref sig .tc) (h : r ∉ wrUp) :
    after opsUp V (no_index (Proc.devRef .tc r)) = V (Proc.devRef .tc r) :=
  after_of_writes_sub (W := wrUp) opsUp V (by
    simp only [List.Forall]
    and_intros <;> (simp only [nullary_writes, unary_writes, binary_writes, ternary_writes, quaternary_writes, reshape_writes, Finset.singleton_subset_iff, List.mem_toFinset]; exact List.mem_map_of_mem (by decide))) h

set_option maxRecDepth 8192 in
theorem subEnd : (opsEnd : List (HloOp τ sig (Elt F))).Forall fun op => op.bufs ⊆ tcRefs τ sig :=
  ⟨reshape_bufs_sub .., unary_bufs_sub .., nullary_bufs_sub .., binary_bufs_sub .., nullary_bufs_sub .., binary_bufs_sub .., nullary_bufs_sub .., binary_bufs_sub .., nullary_bufs_sub .., binary_bufs_sub ..⟩
theorem freshEnd : (opsEnd : List (HloOp τ sig (Elt F))).Forall fun op => op.fresh = ∅ :=
  ⟨rfl, rfl, rfl, rfl, rfl, rfl, rfl, rfl, rfl, rfl⟩
set_option maxRecDepth 8192 in
/-- A buffer that the stage does not write keeps its contents. -/
theorem keepEnd (V : Valuation τ sig (Elt F)) (r : Ref sig .tc) (h : r ∉ wrEnd) :
    after opsEnd V (no_index (Proc.devRef .tc r)) = V (Proc.devRef .tc r) :=
  after_of_writes_sub (W := wrEnd) opsEnd V (by
    simp only [List.Forall]
    and_intros <;> (simp only [nullary_writes, unary_writes, binary_writes, ternary_writes, quaternary_writes, reshape_writes, Finset.singleton_subset_iff, List.mem_toFinset]; exact List.mem_map_of_mem (by decide))) h

theorem ops_sub : (ops : List (HloOp τ sig (Elt F))).Forall fun op => op.bufs ⊆ tcRefs τ sig :=
  List.forall_iff_forall_mem.mpr fun op h => by
    simp only [ops, ops0, List.mem_append, or_assoc] at h
    rcases h with h | h | h | h | h | h | h | h | h | h | h | h
    exacts [List.forall_iff_forall_mem.mp subDown op h, List.forall_iff_forall_mem.mp subUnit op h, List.forall_iff_forall_mem.mp subBook op h, List.forall_iff_forall_mem.mp subDist op h, List.forall_iff_forall_mem.mp subCode op h, List.forall_iff_forall_mem.mp subStart op h, List.forall_iff_forall_mem.mp subPick op h, List.forall_iff_forall_mem.mp subLoss op h, List.forall_iff_forall_mem.mp subLoss2 op h, List.forall_iff_forall_mem.mp subStraight op h, List.forall_iff_forall_mem.mp subUp op h, List.forall_iff_forall_mem.mp subEnd op h]
theorem ops_fresh : ∀ op ∈ (ops : List (HloOp τ sig (Elt F))), op.fresh = ∅ := fun op h => by
  simp only [ops, ops0, List.mem_append, or_assoc] at h
  rcases h with h | h | h | h | h | h | h | h | h | h | h | h
  exacts [List.forall_iff_forall_mem.mp freshDown op h, List.forall_iff_forall_mem.mp freshUnit op h, List.forall_iff_forall_mem.mp freshBook op h, List.forall_iff_forall_mem.mp freshDist op h, List.forall_iff_forall_mem.mp freshCode op h, List.forall_iff_forall_mem.mp freshStart op h, List.forall_iff_forall_mem.mp freshPick op h, List.forall_iff_forall_mem.mp freshLoss op h, List.forall_iff_forall_mem.mp freshLoss2 op h, List.forall_iff_forall_mem.mp freshStraight op h, List.forall_iff_forall_mem.mp freshUp op h, List.forall_iff_forall_mem.mp freshEnd op h]

end Cert.ReferenceIdeal.Stages

end
-- ==== Proof.RefStages.lean ====
/- What each stage of the reference leaves in the buffer that the later stages read, as a named function of what it reads; and the
   run of the whole list. -/
module

public import proofs.«01_k».proof.Proof.RefOps

@[expose] public section

set_option Elab.async false

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## What they leave -/

theorem cast_v0 (V : Valuation τ sig (Elt F)) :
    (reshape main_arg0 main_v0 (rfl : (.f32 : EltTy) = .f32) shapeCasts_S8x8192x128_S8x16x512x128 : HloOp τ sig (Elt F)).result V (no_index (Proc.devRef .tc main_v0))
      = shapeCast S8x16x512x128 (V (Proc.devRef .tc main_arg0)) shapeCasts_S8x8192x128_S8x16x512x128 := by
  rw [reshape_result]; rfl

theorem cast_v2 (V : Valuation τ sig (Elt F)) :
    (reshape main_v1 main_v2 (rfl : (.f32 : EltTy) = .f32) shapeCasts_S8x512x128x16_S8x512x2048 : HloOp τ sig (Elt F)).result V (no_index (Proc.devRef .tc main_v2))
      = shapeCast S8x512x2048 (V (Proc.devRef .tc main_v1)) shapeCasts_S8x512x128x16_S8x512x2048 := by
  rw [reshape_result]; rfl

theorem cast_v3 (V : Valuation τ sig (Elt F)) :
    (reshape main_v2 main_v3 (rfl : (.f32 : EltTy) = .f32) shapeCasts_S8x512x2048_S8x128x4x2048 : HloOp τ sig (Elt F)).result V (no_index (Proc.devRef .tc main_v3))
      = shapeCast S8x128x4x2048 (V (Proc.devRef .tc main_v2)) shapeCasts_S8x512x2048_S8x128x4x2048 := by
  rw [reshape_result]; rfl

theorem cast_v4 (V : Valuation τ sig (Elt F)) :
    (reshape main_v3 main_v4 (rfl : (.f32 : EltTy) = .f32) shapeCasts_S8x128x4x2048_S8x128x8192 : HloOp τ sig (Elt F)).result V (no_index (Proc.devRef .tc main_v4))
      = shapeCast S8x128x8192 (V (Proc.devRef .tc main_v3)) shapeCasts_S8x128x4x2048_S8x128x8192 := by
  rw [reshape_result]; rfl

theorem cast_v5 (V : Valuation τ sig (Elt F)) :
    (reshape main_v4 main_v5 (rfl : (.f32 : EltTy) = .f32) shapeCasts_S8x128x8192_S8x128x8x1024 : HloOp τ sig (Elt F)).result V (no_index (Proc.devRef .tc main_v5))
      = shapeCast S8x128x8x1024 (V (Proc.devRef .tc main_v4)) shapeCasts_S8x128x8192_S8x128x8x1024 := by
  rw [reshape_result]; rfl

theorem cast_v46 (V : Valuation τ sig (Elt F)) :
    (reshape main_v45 main_v46 (rfl : (.f32 : EltTy) = .f32) shapeCasts_S8x128x8x1024_S8x128x8192 : HloOp τ sig (Elt F)).result V (no_index (Proc.devRef .tc main_v46))
      = shapeCast S8x128x8192 (V (Proc.devRef .tc main_v45)) shapeCasts_S8x128x8x1024_S8x128x8192 := by
  rw [reshape_result]; rfl

theorem cast_v47 (V : Valuation τ sig (Elt F)) :
    (reshape main_v46 main_v47 (rfl : (.f32 : EltTy) = .f32) shapeCasts_S8x128x8192_S8x128x4x2048 : HloOp τ sig (Elt F)).result V (no_index (Proc.devRef .tc main_v47))
      = shapeCast S8x128x4x2048 (V (Proc.devRef .tc main_v46)) shapeCasts_S8x128x8192_S8x128x4x2048 := by
  rw [reshape_result]; rfl

theorem cast_v48 (V : Valuation τ sig (Elt F)) :
    (reshape main_v47 main_v48 (rfl : (.f32 : EltTy) = .f32) shapeCasts_S8x128x4x2048_S8x512x2048 : HloOp τ sig (Elt F)).result V (no_index (Proc.devRef .tc main_v48))
      = shapeCast S8x512x2048 (V (Proc.devRef .tc main_v47)) shapeCasts_S8x128x4x2048_S8x512x2048 := by
  rw [reshape_result]; rfl

theorem cast_v49 (V : Valuation τ sig (Elt F)) :
    (reshape main_v48 main_v49 (rfl : (.f32 : EltTy) = .f32) shapeCasts_S8x512x2048_S8x512x128x16 : HloOp τ sig (Elt F)).result V (no_index (Proc.devRef .tc main_v49))
      = shapeCast S8x512x128x16 (V (Proc.devRef .tc main_v48)) shapeCasts_S8x512x2048_S8x512x128x16 := by
  rw [reshape_result]; rfl

theorem cast_v51 (V : Valuation τ sig (Elt F)) :
    (reshape main_v50 main_v51 (rfl : (.f32 : EltTy) = .f32) shapeCasts_S8x16x512x128_S8x8192x128 : HloOp τ sig (Elt F)).result V (no_index (Proc.devRef .tc main_v51))
      = shapeCast S8x8192x128 (V (Proc.devRef .tc main_v50)) shapeCasts_S8x16x512x128_S8x8192x128 := by
  rw [reshape_result]; rfl

set_option maxRecDepth 8192 in
set_option maxHeartbeats 2000000 in
theorem at_v6 (V : Valuation τ sig (Elt F)) :
    after opsDown V (no_index (Proc.devRef .tc main_v6)) = down (V (Proc.devRef .tc main_arg0)) (V (Proc.devRef .tc main_arg1)) := by
  simp only [opsDown, after_cons, after_nil]
  rw [binary_result, cast_v5, cast_v4, cast_v3, cast_v2, unary_result, cast_v0]
  repeat (first
    | (rw [reshape_result_ne]; rotate_left; decide)
    | (rw [unary_result_ne]; rotate_left; decide)
    | (rw [binary_result_ne]; rotate_left; decide)
    | (rw [nullary_result_ne]; rotate_left; decide))
  rfl

set_option maxRecDepth 8192 in
set_option maxHeartbeats 2000000 in
theorem at_v11 (V : Valuation τ sig (Elt F)) :
    after opsUnit V (no_index (Proc.devRef .tc main_v11)) = unitRows (V (Proc.devRef .tc main_v6)) := by
  simp only [opsUnit, TRef.binary, TRef.nullary, TRef.quaternary, TRef.ternary, TRef.unary, TRef.toBuf, TRef.ofBuf, cast_eq]
  after_results_simp
  all_goals rfl

set_option maxRecDepth 8192 in
set_option maxHeartbeats 2000000 in
theorem at_v16 (V : Valuation τ sig (Elt F)) :
    after opsBook V (no_index (Proc.devRef .tc main_v16)) = unitBook (V (Proc.devRef .tc main_arg3)) := by
  simp only [opsBook, TRef.binary, TRef.nullary, TRef.quaternary, TRef.ternary, TRef.unary, TRef.toBuf, TRef.ofBuf, cast_eq]
  after_results_simp
  all_goals rfl

set_option maxRecDepth 8192 in
set_option maxHeartbeats 2000000 in
theorem at_v29 (V : Valuation τ sig (Elt F)) :
    after opsDist V (no_index (Proc.devRef .tc main_v29)) = dist (V (Proc.devRef .tc main_v11)) (V (Proc.devRef .tc main_v16)) := by
  simp only [opsDist]
  after_results_simp
  all_goals rfl

set_option maxRecDepth 8192 in
set_option maxHeartbeats 2000000 in
theorem at_v30 (V : Valuation τ sig (Elt F)) :
    after opsCode V (no_index (Proc.devRef .tc main_v30)) = codes (V (Proc.devRef .tc main_v29)) := by
  simp only [opsCode, TRef.binary, TRef.nullary, TRef.quaternary, TRef.ternary, TRef.unary, TRef.toBuf, TRef.ofBuf, cast_eq]
  after_results_simp
  all_goals rfl

set_option maxRecDepth 8192 in
set_option maxHeartbeats 2000000 in
theorem at_call3_v5 (V : Valuation τ sig (Elt F)) :
    after opsStart V (no_index (Proc.devRef .tc main_call3_v5)) = start (V (Proc.devRef .tc main_v30)) := by
  simp only [opsStart, TRef.binary, TRef.nullary, TRef.quaternary, TRef.ternary, TRef.unary, TRef.toBuf, TRef.ofBuf, cast_eq]
  after_results_simp
  all_goals rfl

set_option maxRecDepth 8192 in
set_option maxHeartbeats 2000000 in
theorem at_v31 (V : Valuation τ sig (Elt F)) :
    after opsPick V (no_index (Proc.devRef .tc main_v31)) = picked (V (Proc.devRef .tc main_v16)) (V (Proc.devRef .tc main_call3_v5)) := by
  simp only [opsPick, TRef.binary, TRef.nullary, TRef.quaternary, TRef.ternary, TRef.unary, TRef.toBuf, TRef.ofBuf, cast_eq]
  after_results_simp
  all_goals rfl

set_option maxRecDepth 8192 in
set_option maxHeartbeats 2000000 in
theorem at_v36 (V : Valuation τ sig (Elt F)) :
    after opsLoss V (no_index (Proc.devRef .tc main_v36)) = meanSq (V (Proc.devRef .tc main_v31)) (V (Proc.devRef .tc main_v6)) := by
  simp only [opsLoss]
  after_results_simp
  all_goals rfl

set_option maxRecDepth 8192 in
set_option maxHeartbeats 2000000 in
theorem at_v41 (V : Valuation τ sig (Elt F)) :
    after opsLoss2 V (no_index (Proc.devRef .tc main_v41)) = meanSq (V (Proc.devRef .tc main_v31)) (V (Proc.devRef .tc main_v6)) := by
  simp only [opsLoss2]
  after_results_simp
  all_goals rfl

set_option maxRecDepth 8192 in
set_option maxHeartbeats 2000000 in
theorem at_v43 (V : Valuation τ sig (Elt F)) :
    after opsStraight V (no_index (Proc.devRef .tc main_v43)) = straight (V (Proc.devRef .tc main_v31)) (V (Proc.devRef .tc main_v6)) := by
  simp only [opsStraight]
  after_results_simp
  all_goals rfl

set_option maxRecDepth 8192 in
set_option maxHeartbeats 2000000 in
theorem at_v52 (V : Valuation τ sig (Elt F)) :
    after opsEnd V (no_index (Proc.devRef .tc main_v52)) = codesOut (V (Proc.devRef .tc main_v30)) := by
  simp only [opsEnd]
  after_results_simp
  all_goals rfl

set_option maxRecDepth 8192 in
set_option maxHeartbeats 2000000 in
theorem at_v54 (V : Valuation τ sig (Elt F)) :
    after opsEnd V (no_index (Proc.devRef .tc main_v54)) = meanOf (V (Proc.devRef .tc main_v36)) := by
  simp only [opsEnd]
  after_results_simp
  all_goals rfl

set_option maxRecDepth 8192 in
set_option maxHeartbeats 2000000 in
theorem at_v56 (V : Valuation τ sig (Elt F)) :
    after opsEnd V (no_index (Proc.devRef .tc main_v56)) = meanOf (V (Proc.devRef .tc main_v41)) := by
  simp only [opsEnd]
  after_results_simp
  all_goals rfl

set_option maxRecDepth 8192 in
set_option maxHeartbeats 2000000 in
theorem at_v51 (V : Valuation τ sig (Elt F)) :
    after opsEnd (after opsUp V) (no_index (Proc.devRef .tc main_v51)) = up (V (Proc.devRef .tc main_arg2)) (V (Proc.devRef .tc main_v43)) := by
  simp only [opsEnd, opsUp, after_cons, after_nil]
  repeat (first
    | (rw [reshape_result_ne]; rotate_left; decide)
    | (rw [unary_result_ne]; rotate_left; decide)
    | (rw [binary_result_ne]; rotate_left; decide)
    | (rw [nullary_result_ne]; rotate_left; decide))
  rw [cast_v51, unary_result, cast_v49, cast_v48, cast_v47, cast_v46, unary_result, binary_result]
  rfl

/-! ## The whole list -/

/-- The projected rows. -/
def zOf (V : Valuation τ sig (Elt F)) : FVec F S8x8x128x32 .f32 := down (V (Proc.devRef .tc main_arg0)) (V (Proc.devRef .tc main_arg1))
/-- The normalised codebooks. -/
def eOf (V : Valuation τ sig (Elt F)) : FVec F S8x1024x32 .f32 := unitBook (V (Proc.devRef .tc main_arg3))
/-- The codes. -/
def kOf (V : Valuation τ sig (Elt F)) : IVec S8x8x128 32 := codes (dist (unitRows (zOf V)) (eOf V))
/-- The picked rows. -/
def pOf (V : Valuation τ sig (Elt F)) : FVec F S8x8x128x32 .f32 := picked (eOf V) (start (kOf V))

set_option maxRecDepth 8192 in
theorem ops_v51 (V : Valuation τ sig (Elt F)) :
    after ops V (Proc.devRef .tc main_v51) = up (V (Proc.devRef .tc main_arg2)) (straight (pOf V) (zOf V)) := by
  simp only [ops, ops0, after_append, pOf, kOf, eOf, zOf]
  simp (discharger := decide) only [at_v51, at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_v52 (V : Valuation τ sig (Elt F)) :
    after ops V (Proc.devRef .tc main_v52) = codesOut (kOf V) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_v54 (V : Valuation τ sig (Elt F)) :
    after ops V (Proc.devRef .tc main_v54) = meanOf (meanSq (pOf V) (zOf V)) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_v56 (V : Valuation τ sig (Elt F)) :
    after ops V (Proc.devRef .tc main_v56) = meanOf (meanSq (pOf V) (zOf V)) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_arg0 (V : Valuation τ sig (Elt F)) :
    after ops V (Proc.devRef .tc main_arg0) = V (Proc.devRef .tc main_arg0) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_arg1 (V : Valuation τ sig (Elt F)) :
    after ops V (Proc.devRef .tc main_arg1) = V (Proc.devRef .tc main_arg1) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_arg2 (V : Valuation τ sig (Elt F)) :
    after ops V (Proc.devRef .tc main_arg2) = V (Proc.devRef .tc main_arg2) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

set_option maxRecDepth 8192 in
theorem ops_arg3 (V : Valuation τ sig (Elt F)) :
    after ops V (Proc.devRef .tc main_arg3) = V (Proc.devRef .tc main_arg3) := by
  simp only [ops, ops0, after_append, pOf, kOf, eOf, zOf]
  simp (discharger := decide) only [at_v6, at_v11, at_v16, at_v29, at_v30, at_call3_v5, at_v31, at_v36, at_v41, at_v43, at_v52, at_v54, at_v56, keepDown, keepUnit, keepBook, keepDist, keepCode, keepStart, keepPick, keepLoss, keepLoss2, keepStraight, keepUp, keepEnd]

/-- Every weakly fair execution of the reference from zero counters ends with the four results as named above and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = up (m ((c.tc : Thread nD τ).loc main_arg2)) (straight (pOf (launchContents m c)) (zOf (launchContents m c)))
      ∧ r.2.mem ((c.tc : Thread nD τ).loc main_v52) = codesOut (kOf (launchContents m c))
      ∧ r.2.mem ((c.tc : Thread nD τ).loc main_v54) = meanOf (meanSq (pOf (launchContents m c)) (zOf (launchContents m c)))
      ∧ r.2.mem ((c.tc : Thread nD τ).loc main_v56) = meanOf (meanSq (pOf (launchContents m c)) (zOf (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v51).trans (ops_v51 (launchContents m c)), (h c main_v52).trans (ops_v52 (launchContents m c)),
       (h c main_v54).trans (ops_v54 (launchContents m c)), (h c main_v56).trans (ops_v56 (launchContents m c)),
       (h c main_arg0).trans (ops_arg0 (launchContents m c)), (h c main_arg1).trans (ops_arg1 (launchContents m c)),
       (h c main_arg2).trans (ops_arg2 (launchContents m c)), (h c main_arg3).trans (ops_arg3 (launchContents m c))⟩)
    (run_seq no_scoped_refs no_scoped_sems defs main (fun _ => ops) main_eq (fun _ => ops_sub) m ρ fun _ => ops_fresh)

end Cert.ReferenceIdeal.Stages

end
-- ==== Proof.RefValue.lean ====
/- The reference's functions over the extended reals, read at an index: the mathematics of `Spec.lean`. -/
module

public import proofs.«01_k».proof.Proof.RefOps
public import proofs.«01_k».proof.Proof.Row
public import proofs.«01_k».proof.Proof.Spec
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

noncomputable section

namespace Cert.ReferenceIdeal.Stages

open Cert.ReferenceIdeal Cert.ReferenceIdeal.Gen Idealize.ShloMosaic Idealize.ShloMosaic.ValueIdx
open scoped BigOperators

/-! ### The two projections and the products -/

/-- The operand of the down projection at `(b, t, m, j)`. -/
theorem operand_apply (x : FVec Ideal S8x8192x128 .f32) (b m : Fin 8) (t : Fin 128) (j : Fin 1024) :
    shapeCast S8x128x8x1024 (shapeCast S8x128x8192 (shapeCast S8x128x4x2048 (shapeCast S8x512x2048 (transpose S8x512x128x16 [0, 2, 3, 1]
      (shapeCast S8x16x512x128 x shapeCasts_S8x8192x128_S8x16x512x128) transposes_S8x16x512x128_S8x512x128x16_0_2_3_1) shapeCasts_S8x512x128x16_S8x512x2048)
      shapeCasts_S8x512x2048_S8x128x4x2048) shapeCasts_S8x128x4x2048_S8x128x8192) shapeCasts_S8x128x8192_S8x128x8x1024 (ix4 b t m j)
      = x (ix3 b (⟨j.val % 16 * 512 + (4 * t.val + m.val / 2), by omega⟩ : Fin 8192) (⟨64 * (m.val % 2) + j.val / 16, by omega⟩ : Fin 128)) := by
  rw [shapeCast_apply _ shapeCasts_S8x128x8192_S8x128x8x1024 (ix4 b t m j) (ix3 b t (⟨m.val * 1024 + j.val, by omega⟩ : Fin 8192))
      (by rw [Shape.rowMajor_val_three, Shape.rowMajor_val_four]; show (b.val * 128 + t.val) * 8192 + (m.val * 1024 + j.val) = ((b.val * 128 + t.val) * 8 + m.val) * 1024 + j.val; omega),
    shapeCast_apply _ shapeCasts_S8x128x4x2048_S8x128x8192 _ (ix4 b t (⟨m.val / 2, by omega⟩ : Fin 4) (⟨m.val % 2 * 1024 + j.val, by omega⟩ : Fin 2048))
      (by rw [Shape.rowMajor_val_three, Shape.rowMajor_val_four]; show ((b.val * 128 + t.val) * 4 + m.val / 2) * 2048 + (m.val % 2 * 1024 + j.val) = (b.val * 128 + t.val) * 8192 + (m.val * 1024 + j.val); omega),
    shapeCast_apply _ shapeCasts_S8x512x2048_S8x128x4x2048 _ (ix3 b (⟨4 * t.val + m.val / 2, by omega⟩ : Fin 512) (⟨m.val % 2 * 1024 + j.val, by omega⟩ : Fin 2048))
      (by rw [Shape.rowMajor_val_three, Shape.rowMajor_val_four]; show (b.val * 512 + (4 * t.val + m.val / 2)) * 2048 + (m.val % 2 * 1024 + j.val) = ((b.val * 128 + t.val) * 4 + m.val / 2) * 2048 + (m.val % 2 * 1024 + j.val); omega),
    shapeCast_apply _ shapeCasts_S8x512x128x16_S8x512x2048 _ (ix4 b (⟨4 * t.val + m.val / 2, by omega⟩ : Fin 512) (⟨64 * (m.val % 2) + j.val / 16, by omega⟩ : Fin 128) (⟨j.val % 16, by omega⟩ : Fin 16))
      (by rw [Shape.rowMajor_val_three, Shape.rowMajor_val_four]; show ((b.val * 512 + (4 * t.val + m.val / 2)) * 128 + (64 * (m.val % 2) + j.val / 16)) * 16 + j.val % 16 = (b.val * 512 + (4 * t.val + m.val / 2)) * 2048 + (m.val % 2 * 1024 + j.val); omega),
    transpose_apply [0, 2, 3, 1] _ transposes_S8x16x512x128_S8x512x128x16_0_2_3_1 _ (ix4 b (⟨j.val % 16, by omega⟩ : Fin 16) (⟨4 * t.val + m.val / 2, by omega⟩ : Fin 512) (⟨64 * (m.val % 2) + j.val / 16, by omega⟩ : Fin 128))
      (fun ax => by
        match ax with
        | ⟨0, _⟩ => rfl
        | ⟨1, _⟩ => rfl
        | ⟨2, _⟩ => rfl
        | ⟨3, _⟩ => rfl),
    shapeCast_apply x shapeCasts_S8x8192x128_S8x16x512x128 _ (ix3 b (⟨j.val % 16 * 512 + (4 * t.val + m.val / 2), by omega⟩ : Fin 8192) (⟨64 * (m.val % 2) + j.val / 16, by omega⟩ : Fin 128))
      (by rw [Shape.rowMajor_val_three, Shape.rowMajor_val_four]; show (b.val * 8192 + (j.val % 16 * 512 + (4 * t.val + m.val / 2))) * 128 + (64 * (m.val % 2) + j.val / 16) = ((b.val * 16 + j.val % 16) * 512 + (4 * t.val + m.val / 2)) * 128 + (64 * (m.val % 2) + j.val / 16); omega)]

theorem down_product (l : FVec Ideal S8x128x8x1024 .f32) (r : FVec Ideal S8x32x1024 .f32) (m b : Fin 8) (t : Fin 128) (k : Fin 32) :
    Host.dotGeneral dot_S8x128x8x1024_S8x32x1024_S8x8x128x32_3_2_01_1_2_0 none l r (ix4 m b t k)
      = ∑ j : Fin 1024, l (ix4 b t m j) * r (ix3 m k j) := by
  simp only [Host.dotGeneral]
  rw [Ideal.dotGeneral_apply, ← Equiv.sum_comp (contrEquiv1 dot_S8x128x8x1024_S8x32x1024_S8x8x128x32_3_2_01_1_2_0 1024 rfl rfl).symm]
  refine Finset.sum_congr rfl fun j _ => ?_
  have hk := contrEquiv1_symm_val dot_S8x128x8x1024_S8x32x1024_S8x8x128x32_3_2_01_1_2_0 1024 rfl rfl j
  congr 2
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => exact hk

theorem dist_product (l : FVec Ideal S8x8x128x32 .f32) (r : FVec Ideal S8x1024x32 .f32) (m b : Fin 8) (t : Fin 128) (j : Fin 1024) :
    Host.dotGeneral dot_S8x8x128x32_S8x1024x32_S8x8x128x1024_3_2_12_1_0_0 none l r (ix4 m b t j)
      = ∑ k : Fin 32, l (ix4 m b t k) * r (ix3 m j k) := by
  simp only [Host.dotGeneral]
  rw [Ideal.dotGeneral_apply, ← Equiv.sum_comp (contrEquiv1 dot_S8x8x128x32_S8x1024x32_S8x8x128x1024_3_2_12_1_0_0 32 rfl rfl).symm]
  refine Finset.sum_congr rfl fun k _ => ?_
  have hk := contrEquiv1_symm_val dot_S8x8x128x32_S8x1024x32_S8x8x128x1024_3_2_12_1_0_0 32 rfl rfl k
  congr 2
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => exact hk

theorem up_product (l : FVec Ideal S8x1024x32 .f32) (r : FVec Ideal S8x8x128x32 .f32) (m b : Fin 8) (t : Fin 128) (j : Fin 1024) :
    Host.dotGeneral dot_S8x1024x32_S8x8x128x32_S8x1024x8x128_2_3_1_12_0_0 none l r (ix4 m j b t)
      = ∑ k : Fin 32, l (ix3 m j k) * r (ix4 m b t k) := by
  simp only [Host.dotGeneral]
  rw [Ideal.dotGeneral_apply, ← Equiv.sum_comp (contrEquiv1 dot_S8x1024x32_S8x8x128x32_S8x1024x8x128_2_3_1_12_0_0 32 rfl rfl).symm]
  refine Finset.sum_congr rfl fun k _ => ?_
  have hk := contrEquiv1_symm_val dot_S8x1024x32_S8x8x128x32_S8x1024x8x128_2_3_1_12_0_0 32 rfl rfl k
  congr 2
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => rfl
    | ⟨2, _⟩ => rfl
    | ⟨3, _⟩ => exact hk

/-- The down projection is the row. -/
theorem down_apply (x : FVec Ideal S8x8192x128 .f32) (w : FVec Ideal S8x32x1024 .f32) (m b : Fin 8) (t : Fin 128) (k : Fin 32) :
    down x w (ix4 m b t k) = Spec.row x w m b t k := by
  unfold down
  rw [down_product]
  exact Finset.sum_congr rfl fun j _ => congrArg (· * w (ix3 m k j)) (operand_apply x b m t j)

/-- The up projection at batch `b`, position `n`, channel `x`. -/
theorem up_apply (w : FVec Ideal S8x1024x32 .f32) (r : FVec Ideal S8x8x128x32 .f32) (b : Fin 8) (n : Fin 8192) (x : Fin 128) :
    up w r (ix3 b n x) = ∑ k : Fin 32,
      w (ix3 (Spec.quantiser ⟨n.val % 512, by omega⟩ x) (⟨x.val % 64 * 16 + n.val / 512, by omega⟩ : Fin 1024) k)
        * r (ix4 (Spec.quantiser ⟨n.val % 512, by omega⟩ x) b (⟨n.val % 512 / 4, by omega⟩ : Fin 128) k) := by
  unfold up
  rw [shapeCast_apply _ shapeCasts_S8x16x512x128_S8x8192x128 (ix3 b n x) (ix4 b (⟨n.val / 512, by omega⟩ : Fin 16) (⟨n.val % 512, by omega⟩ : Fin 512) x)
      (by rw [Shape.rowMajor_val_three, Shape.rowMajor_val_four]; show ((b.val * 16 + n.val / 512) * 512 + n.val % 512) * 128 + x.val = (b.val * 8192 + n.val) * 128 + x.val; omega),
    transpose_apply [0, 3, 1, 2] _ transposes_S8x512x128x16_S8x16x512x128_0_3_1_2 _ (ix4 b (⟨n.val % 512, by omega⟩ : Fin 512) x (⟨n.val / 512, by omega⟩ : Fin 16))
      (fun ax => by
        match ax with
        | ⟨0, _⟩ => rfl
        | ⟨1, _⟩ => rfl
        | ⟨2, _⟩ => rfl
        | ⟨3, _⟩ => rfl),
    shapeCast_apply _ shapeCasts_S8x512x2048_S8x512x128x16 _ (ix3 b (⟨n.val % 512, by omega⟩ : Fin 512) (⟨x.val * 16 + n.val / 512, by omega⟩ : Fin 2048))
      (by rw [Shape.rowMajor_val_three, Shape.rowMajor_val_four]; show (b.val * 512 + n.val % 512) * 2048 + (x.val * 16 + n.val / 512) = ((b.val * 512 + n.val % 512) * 128 + x.val) * 16 + n.val / 512; omega),
    shapeCast_apply _ shapeCasts_S8x128x4x2048_S8x512x2048 _ (ix4 b (⟨n.val % 512 / 4, by omega⟩ : Fin 128) (⟨n.val % 512 % 4, by omega⟩ : Fin 4) (⟨x.val * 16 + n.val / 512, by omega⟩ : Fin 2048))
      (by rw [Shape.rowMajor_val_three, Shape.rowMajor_val_four]; show ((b.val * 128 + n.val % 512 / 4) * 4 + n.val % 512 % 4) * 2048 + (x.val * 16 + n.val / 512) = (b.val * 512 + n.val % 512) * 2048 + (x.val * 16 + n.val / 512); omega),
    shapeCast_apply _ shapeCasts_S8x128x8192_S8x128x4x2048 _ (ix3 b (⟨n.val % 512 / 4, by omega⟩ : Fin 128) (⟨n.val % 512 % 4 * 2048 + (x.val * 16 + n.val / 512), by omega⟩ : Fin 8192))
      (by rw [Shape.rowMajor_val_three, Shape.rowMajor_val_four]; show (b.val * 128 + n.val % 512 / 4) * 8192 + (n.val % 512 % 4 * 2048 + (x.val * 16 + n.val / 512)) = ((b.val * 128 + n.val % 512 / 4) * 4 + n.val % 512 % 4) * 2048 + (x.val * 16 + n.val / 512); omega),
    shapeCast_apply _ shapeCasts_S8x128x8x1024_S8x128x8192 _ (ix4 b (⟨n.val % 512 / 4, by omega⟩ : Fin 128) (Spec.quantiser ⟨n.val % 512, by omega⟩ x) (⟨x.val % 64 * 16 + n.val / 512, by omega⟩ : Fin 1024))
      (by rw [Shape.rowMajor_val_three, Shape.rowMajor_val_four]; show ((b.val * 128 + n.val % 512 / 4) * 8 + (2 * (n.val % 512 % 4) + x.val / 64)) * 1024 + (x.val % 64 * 16 + n.val / 512) = (b.val * 128 + n.val % 512 / 4) * 8192 + (n.val % 512 % 4 * 2048 + (x.val * 16 + n.val / 512)); omega),
    transpose_apply [2, 3, 0, 1] _ transposes_S8x1024x8x128_S8x128x8x1024_2_3_0_1 _ (ix4 (Spec.quantiser ⟨n.val % 512, by omega⟩ x) (⟨x.val % 64 * 16 + n.val / 512, by omega⟩ : Fin 1024) b (⟨n.val % 512 / 4, by omega⟩ : Fin 128))
      (fun ax => by
        match ax with
        | ⟨0, _⟩ => rfl
        | ⟨1, _⟩ => rfl
        | ⟨2, _⟩ => rfl
        | ⟨3, _⟩ => rfl),
    up_product]

end Cert.ReferenceIdeal.Stages
-- ==== Proof.RefQuant.lean ====
/- The reference's quantiser over the extended reals, read at an index: norms, distances, the first nearest codebook row, the picked
   rows and the two means. -/
module

public import proofs.«01_k».proof.Proof.RefValue
public import Idealize.ShloMosaic.Lib.ReduceAll

@[expose] public section

noncomputable section

namespace Cert.ReferenceIdeal.Stages

open Cert.ReferenceIdeal Cert.ReferenceIdeal.Gen Idealize.ShloMosaic Idealize.ShloMosaic.ValueIdx
open scoped BigOperators

/-! ### Row sums -/

theorem first_zero : (constant S_ .f32 0x00000000#32 : FVec Ideal S_ .f32) (Shape.Idx.first h_S_) = 0 := Ideal.ofBits_zero_f32

theorem sum_rows (x : FVec Ideal S8x8x128x32 .f32) (m b : Fin 8) (t : Fin 128) :
    Host.reduceAdd x (constant S_ .f32 0x00000000#32) reducesTo_S8x8x128x32_S8x8x128_d3 h_S_ (ix3 m b t) = ∑ k : Fin 32, x (ix4 m b t k) := by
  have hr : S8x8x128x32.Reduces [3] S8x8x128 := ⟨reducesTo_S8x8x128x32_S8x8x128_d3.1, by decide, reducesTo_S8x8x128x32_S8x8x128_d3.2⟩
  rw [hostReduceAdd_apply, first_zero, Ideal.hostReduceAdd_single reducesTo_S8x8x128x32_S8x8x128_d3 hr, zero_add]
  refine Finset.sum_congr rfl fun k _ => congrArg x ?_
  funext ax
  match ax with
  | ⟨0, _⟩ => rfl
  | ⟨1, _⟩ => rfl
  | ⟨2, _⟩ => rfl
  | ⟨3, _⟩ => rfl

theorem sum_book (x : FVec Ideal S8x1024x32 .f32) (m : Fin 8) (j : Fin 1024) :
    Host.reduceAdd x (constant S_ .f32 0x00000000#32) reducesTo_S8x1024x32_S8x1024_d2 h_S_ (ix2 m j) = ∑ k : Fin 32, x (ix3 m j k) := by
  have hr : S8x1024x32.Reduces [2] S8x1024 := ⟨reducesTo_S8x1024x32_S8x1024_d2.1, by decide, reducesTo_S8x1024x32_S8x1024_d2.2⟩
  rw [hostReduceAdd_apply, first_zero, Ideal.hostReduceAdd_single reducesTo_S8x1024x32_S8x1024_d2 hr, zero_add]
  refine Finset.sum_congr rfl fun k _ => congrArg x ?_
  funext ax
  match ax with
  | ⟨0, _⟩ => rfl
  | ⟨1, _⟩ => rfl
  | ⟨2, _⟩ => rfl

/-! ### Unit rows and distances -/

/-- Row `(m, b, t)`. -/
abbrev rowOf (z : FVec Ideal S8x8x128x32 .f32) (m b : Fin 8) (t : Fin 128) : Fin 32 → EReal := fun k => z (ix4 m b t k)

theorem unitRows_apply (z : FVec Ideal S8x8x128x32 .f32) (m b : Fin 8) (t : Fin 128) (k : Fin 32) :
    unitRows z (ix4 m b t k) = Row.unit (rowOf z m b t) k := by
  unfold unitRows Row.unit
  show Ideal.div (z (ix4 m b t k)) _ = _
  rw [broadcastInDim_apply _ bcast_S8x8x128x1_S8x8x128x32_0_1_2_3 _ _ (ix4 m b t (0 : Fin 1)) (fun ax => by
    match ax with
    | ⟨0, _⟩ => rfl
    | ⟨1, _⟩ => rfl
    | ⟨2, _⟩ => rfl
    | ⟨3, _⟩ => rfl)]
  show Ideal.div _ (Ideal.sqrt (broadcastInDim S8x8x128x1 _ _ _ _) + broadcastInDim S8x8x128x1 _ _ _ _) = _
  rw [broadcastInDim_apply _ bcast_S8x8x128_S8x8x128x1_0_1_2 _ _ (ix3 m b t) (fun ax => by
    match ax with
    | ⟨0, _⟩ => rfl
    | ⟨1, _⟩ => rfl
    | ⟨2, _⟩ => rfl), broadcastInDim_scalar_apply, sum_rows]
  rfl

theorem unitBook_apply (e : FVec Ideal S8x1024x32 .f32) (m : Fin 8) (j : Fin 1024) (k : Fin 32) :
    unitBook e (ix3 m j k) = Row.unit (Spec.book e m j) k := by
  unfold unitBook Row.unit
  show Ideal.div (e (ix3 m j k)) _ = _
  rw [broadcastInDim_apply _ bcast_S8x1024x1_S8x1024x32_0_1_2 _ _ (ix3 m j (0 : Fin 1)) (fun ax => by
    match ax with
    | ⟨0, _⟩ => rfl
    | ⟨1, _⟩ => rfl
    | ⟨2, _⟩ => rfl)]
  show Ideal.div _ (Ideal.sqrt (broadcastInDim S8x1024x1 _ _ _ _) + broadcastInDim S8x1024x1 _ _ _ _) = _
  rw [broadcastInDim_apply _ bcast_S8x1024_S8x1024x1_0_1 _ _ (ix2 m j) (fun ax => by
    match ax with
    | ⟨0, _⟩ => rfl
    | ⟨1, _⟩ => rfl), broadcastInDim_scalar_apply, sum_book]
  rfl

theorem dist_apply (n : FVec Ideal S8x8x128x32 .f32) (e : FVec Ideal S8x1024x32 .f32) (m b : Fin 8) (t : Fin 128) (j : Fin 1024) :
    dist n e (ix4 m b t j) = Row.dist (rowOf n m b t) (Spec.book e m j) := by
  unfold dist Row.dist
  show broadcastInDim S8x8x128x1024 _ _ _ _ - broadcastInDim S8x8x128x1024 _ _ _ _ * _ + broadcastInDim S8x8x128x1024 _ _ _ _ = _
  rw [broadcastInDim_apply _ bcast_S8x8x128x1_S8x8x128x1024_0_1_2_3 _ _ (ix4 m b t (0 : Fin 1)) (fun ax => by
    match ax with
    | ⟨0, _⟩ => rfl
    | ⟨1, _⟩ => rfl
    | ⟨2, _⟩ => rfl
    | ⟨3, _⟩ => rfl),
    broadcastInDim_apply _ bcast_S8x8x128_S8x8x128x1_0_1_2 _ _ (ix3 m b t) (fun ax => by
    match ax with
    | ⟨0, _⟩ => rfl
    | ⟨1, _⟩ => rfl
    | ⟨2, _⟩ => rfl),
    broadcastInDim_apply _ bcast_S8x1x1x1024_S8x8x128x1024_0_1_2_3 _ _ (ix4 m (0 : Fin 1) (0 : Fin 1) j) (fun ax => by
    match ax with
    | ⟨0, _⟩ => rfl
    | ⟨1, _⟩ => rfl
    | ⟨2, _⟩ => rfl
    | ⟨3, _⟩ => rfl),
    broadcastInDim_apply _ bcast_S8x1024_S8x1x1x1024_0_3 _ _ (ix2 m j) (fun ax => by
    match ax with
    | ⟨0, _⟩ => rfl
    | ⟨1, _⟩ => rfl),
    broadcastInDim_scalar_apply, sum_rows, sum_book, dist_product]
  rfl

/-! ### The first nearest row -/

/-- Before or at: a smaller value, or the same value at an index no larger. -/
def Before (p q : EReal × BitVec 32) : Prop := p.1 < q.1 ∨ (p.1 = q.1 ∧ p.2.toInt ≤ q.2.toInt)

theorem Before.refl (p : EReal × BitVec 32) : Before p p := .inr ⟨rfl, le_refl _⟩

theorem Before.trans {p q r : EReal × BitVec 32} (h1 : Before p q) (h2 : Before q r) : Before p r := by
  rcases h1 with h1 | ⟨h1, h1'⟩ <;> rcases h2 with h2 | ⟨h2, h2'⟩
  · exact .inl (h1.trans h2)
  · exact .inl (h2 ▸ h1)
  · exact .inl (h1 ▸ h2)
  · exact .inr ⟨h1.trans h2, h1'.trans h2'⟩

/-- One step keeps one of its two arguments, the one before the other. -/
theorem step_spec (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨x, i⟩ := p
  obtain ⟨y, j⟩ := q
  have hb : ∀ a : BitVec 1, 1#1 ||| a = 1#1 := by decide
  rcases lt_trichotomy x y with h | h | h
  · have hs : reducer_argmin_f32_i32 (F := Ideal) (x, i) (y, j) = (x, i) := by
      simp [reducer_argmin_f32_i32, Ideal.cmpf_def, Ideal.cmp, h, hb, IntOp.ori, IntOp.andi, Scalar.select]
    rw [hs]
    exact ⟨.inl rfl, .refl _, .inl h⟩
  · subst h
    by_cases hij : i.toInt < j.toInt
    · have hs : reducer_argmin_f32_i32 (F := Ideal) (x, i) (x, j) = (x, i) := by
        simp [reducer_argmin_f32_i32, Ideal.cmpf_def, Ideal.cmp, IntOp.ori, IntOp.andi, Scalar.select, IntOp.cmpi, BitVec.slt, hij]
      rw [hs]
      exact ⟨.inl rfl, .refl _, .inr ⟨rfl, hij.le⟩⟩
    · have hs : reducer_argmin_f32_i32 (F := Ideal) (x, i) (x, j) = (x, j) := by
        simp [reducer_argmin_f32_i32, Ideal.cmpf_def, Ideal.cmp, IntOp.ori, IntOp.andi, Scalar.select, IntOp.cmpi, BitVec.slt, hij]
      rw [hs]
      exact ⟨.inr rfl, .inr ⟨rfl, not_lt.mp hij⟩, .refl _⟩
  · have hs : reducer_argmin_f32_i32 (F := Ideal) (x, i) (y, j) = (y, j) := by
      simp [reducer_argmin_f32_i32, Ideal.cmpf_def, Ideal.cmp, h.ne', h.le, not_lt.mpr h.le, IntOp.ori, IntOp.andi, Scalar.select]
    rw [hs]
    exact ⟨.inr rfl, .inl h, .refl _⟩

theorem fold_spec (l : List (EReal × BitVec 32)) (p : EReal × BitVec 32) :
    l.foldl (reducer_argmin_f32_i32 (F := Ideal)) p ∈ p :: l ∧ ∀ q ∈ p :: l, Before (l.foldl (reducer_argmin_f32_i32 (F := Ideal)) p) q := by
  induction l generalizing p with
  | nil => exact ⟨List.mem_singleton.mpr rfl, fun q hq => by rw [List.mem_singleton.mp hq]; exact .refl _⟩
  | cons q l ih =>
    obtain ⟨h1, h2, h3⟩ := step_spec p q
    obtain ⟨i1, i2⟩ := ih (reducer_argmin_f32_i32 (F := Ideal) p q)
    have i0 := i2 _ (List.mem_cons_self ..)
    rw [List.foldl_cons]
    refine ⟨?_, fun r hr => ?_⟩
    · rcases List.mem_cons.mp i1 with h | h
      · rw [h]
        rcases h1 with h1 | h1 <;> rw [h1] <;> simp
      · exact List.mem_cons_of_mem _ (List.mem_cons_of_mem _ h)
    · rcases List.mem_cons.mp hr with rfl | hr
      · exact i0.trans h2
      · rcases List.mem_cons.mp hr with rfl | hr
        · exact i0.trans h3
        · exact i2 r (List.mem_cons_of_mem _ hr)

/-- The pairs over an index of the result: those of the indices that drop to it. -/
theorem mem_argReduceFiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    exact ⟨s.rowMajor i, List.mem_filter.mpr ⟨List.mem_finRange _, by rw [Equiv.symm_apply_apply]; exact decide_eq_true hi⟩,
      by rw [Equiv.symm_apply_apply]⟩

/-- What is left of an index when its last coordinate is dropped. -/
theorem drop_last (i : S8x8x128x1024.Idx) : reducesTo_S8x8x128x1024_S8x8x128_d3.drop i = ix3 (i 0) (i 1) (i 2) := by
  funext ax
  match ax with
  | ⟨0, _⟩ => exact Fin.ext (Shape.ReducesTo.drop_apply_val_of_eq reducesTo_S8x8x128x1024_S8x8x128_d3 i 0 0)
  | ⟨1, _⟩ => exact Fin.ext (Shape.ReducesTo.drop_apply_val_of_eq reducesTo_S8x8x128x1024_S8x8x128_d3 i 1 1)
  | ⟨2, _⟩ => exact Fin.ext (Shape.ReducesTo.drop_apply_val_of_eq reducesTo_S8x8x128x1024_S8x8x128_d3 i 2 2)

theorem iota_last (m b : Fin 8) (t : Fin 128) (j : Fin 1024) : iotaInDim S8x8x128x1024 32 3 (ix4 m b t j) = BitVec.ofNat 32 j.val := rfl

theorem mem_fiber (d : FVec Ideal S8x8x128x1024 .f32) (m b : Fin 8) (t : Fin 128) (p : EReal × BitVec 32) :
    p ∈ Host.argReduceFiber d (iotaInDim S8x8x128x1024 32 3) reducesTo_S8x8x128x1024_S8x8x128_d3 (ix3 m b t)
      ↔ ∃ j : Fin 1024, p = (d (ix4 m b t j), BitVec.ofNat 32 j.val) := by
  refine (mem_argReduceFiber _ _ _ _ p).trans ⟨?_, ?_⟩
  · rintro ⟨i, hd, rfl⟩
    obtain ⟨m', b', t', j, rfl⟩ : ∃ m' b' t' j, i = ix4 m' b' t' j := ⟨_, _, _, _, eq_ix4 i⟩
    have hd' : ix3 m' b' t' = ix3 m b t := (drop_last (ix4 m' b' t' j)).symm.trans hd
    obtain rfl : m' = m := congrFun hd' 0
    obtain rfl : b' = b := congrFun hd' 1
    obtain rfl : t' = t := congrFun hd' 2
    exact ⟨j, by rw [iota_last]⟩
  · rintro ⟨j, rfl⟩
    exact ⟨ix4 m b t j, drop_last _, by rw [iota_last]⟩

theorem toInt_small (n : ℕ) (h : n < 1024) : (BitVec.ofNat 32 n).toInt = (n : Int) := by
  rw [BitVec.toInt_eq_toNat_cond, BitVec.toNat_ofNat, Nat.mod_eq_of_lt (by omega), if_pos (by omega)]

theorem first_top : (constant S_ .f32 0x7F800000#32 : FVec Ideal S_ .f32) (Shape.Idx.first h_S_) = (⊤ : EReal) := by
  show Ideal.ofBits .f32 0x7F800000#32 = ⊤
  simp [Ideal.ofBits, Ideal.ieee]

/-- The fold over a list of the values with their indices ends at the first least one. -/
theorem fold_first (l : List (EReal × BitVec 32)) (g : Fin 1024 → EReal) (a : EReal) (ha : ∀ x : EReal, x ≤ a) (hl : ∀ p, p ∈ l ↔ ∃ j : Fin 1024, p = (g j, BitVec.ofNat 32 j.val)) :
    (l.foldl (reducer_argmin_f32_i32 (F := Ideal)) (a, 0#32)).2 = BitVec.ofNat 32 (Row.first g).val := by
  obtain ⟨h1, h2⟩ := fold_spec l (a, 0#32)
  generalize l.foldl (reducer_argmin_f32_i32 (F := Ideal)) (a, 0#32) = r at h1 h2 ⊢
  have hall : ∀ j : Fin 1024, Before r (g j, BitVec.ofNat 32 j.val) := fun j => h2 _ (List.mem_cons_of_mem _ ((hl _).mpr ⟨j, rfl⟩))
  obtain ⟨c, hc2, hc1⟩ : ∃ c : Fin 1024, r.2 = BitVec.ofNat 32 c.val ∧ g c ≤ r.1 := by
    rcases List.mem_cons.mp h1 with h | h
    · exact ⟨0, by rw [h]; rfl, by rw [h]; exact ha _⟩
    · obtain ⟨c, hc⟩ := (hl _).mp h
      exact ⟨c, by rw [hc], by rw [hc]⟩
  rw [hc2]
  refine congrArg (fun c : Fin 1024 => BitVec.ofNat 32 c.val) (Row.first_unique _ c (fun j => ?_) fun j hj => ?_)
  · rcases hall j with h | ⟨h, -⟩
    · exact hc1.trans h.le
    · exact hc1.trans h.le
  · rcases hall j with h | ⟨-, h⟩
    · exact absurd (hj.trans hc1) (not_le.mpr h)
    · have h' : (BitVec.ofNat 32 c.val).toInt ≤ (BitVec.ofNat 32 j.val).toInt := by rw [← hc2]; exact h
      rw [toInt_small _ c.isLt, toInt_small _ j.isLt] at h'
      exact Fin.le_def.mpr (by exact_mod_cast h')

/-- The index of an index reduction, from the fold over its pairs. -/
theorem argReduce_index {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel)
    (j : t.Idx) (k : BitVec 32)
    (hk : ((Host.argReduceFiber x y h j).foldl f (ix (Shape.Idx.first hu), iy (Shape.Idx.first hu))).2 = k) :
    (Host.argReduce f x y ix iy h hu j).2 = k := by
  rw [Ideal.argReduce_eq_reduce2, Host.reduce2_eq_foldl_fiber, hk]

/-- The same at the shapes of the distances. -/
theorem argmin_index (d : FVec Ideal S8x8x128x1024 .f32) (ix : S_.Idx → Ideal .f32) (iy : S_.Idx → BitVec 32)
    (ha : ∀ x : EReal, x ≤ ix (Shape.Idx.first h_S_)) (hb : iy (Shape.Idx.first h_S_) = 0#32) (m b : Fin 8) (t : Fin 128) :
    (Host.argReduce (reducer_argmin_f32_i32 (F := Ideal)) d (iotaInDim S8x8x128x1024 32 3) ix iy reducesTo_S8x8x128x1024_S8x8x128_d3 h_S_ (ix3 m b t)).2
      = BitVec.ofNat 32 (Row.first fun j => d (ix4 m b t j)).val := by
  refine argReduce_index _ d _ ix iy _ _ _ _ ?_
  rw [hb]
  exact fold_first _ (fun j => d (ix4 m b t j)) _ ha (mem_fiber d m b t)

/-- The codes as a function of the distances. -/
theorem codes_eq : codes (F := Ideal) = fun d j => (Host.argReduce reducer_argmin_f32_i32 d (iotaInDim S8x8x128x1024 32 3)
    (constant S_ .f32 0x7F800000#32) (constantI S_ 32 0#32) reducesTo_S8x8x128x1024_S8x8x128_d3 h_S_ j).2 := rfl

theorem le_first (x : EReal) : x ≤ (constant S_ .f32 0x7F800000#32 : FVec Ideal S_ .f32) (Shape.Idx.first h_S_) := by
  rw [first_top]
  exact le_top

/-- The codes are the first nearest rows. -/
theorem codes_apply (d : FVec Ideal S8x8x128x1024 .f32) (m b : Fin 8) (t : Fin 128) :
    codes d (ix3 m b t) = BitVec.ofNat 32 (Row.first fun j => d (ix4 m b t j)).val :=
  (congrFun (congrFun codes_eq d) (ix3 m b t)).trans (argmin_index d _ _ le_first rfl m b t)

/-! ### The picked rows -/

theorem gather_rows (e : FVec Ideal S8x1024x32 .f32) (i : IVec S8x8x128x1 32) (m b : Fin 8) (t : Fin 128) (k : Fin 32) :
    Host.gather gather_S8x1024x32_S8x8x128x1_S8x8x128x32_3_1_0_0_1_3_1132 e i (ix4 m b t k)
      = e (ix3 m (⟨min (i (ix4 m b t (0 : Fin 1))).toInt.toNat 1023, by omega⟩ : Fin 1024) k) := by
  unfold Host.gather
  refine congrArg e ?_
  funext a
  refine Fin.ext ?_
  show gather_S8x1024x32_S8x8x128x1_S8x8x128x32_3_1_0_0_1_3_1132.start (ix4 m b t k) i a
    + gather_S8x1024x32_S8x8x128x1_S8x8x128x32_3_1_0_0_1_3_1132.batchCoord (ix4 m b t k) a
    + gather_S8x1024x32_S8x8x128x1_S8x8x128x32_3_1_0_0_1_3_1132.offCoord (ix4 m b t k) a = _
  match a with
  | ⟨0, _⟩ => exact (Nat.add_zero _).trans (Nat.zero_add _)
  | ⟨1, _⟩ =>
    refine (Nat.add_zero _).trans ((Nat.add_zero _).trans ?_)
    show min (i _).toInt.toNat 1023 = min (i _).toInt.toNat 1023
    congr 4
    funext c
    match c with
    | ⟨0, _⟩ => rfl
    | ⟨1, _⟩ => rfl
    | ⟨2, _⟩ => rfl
    | ⟨3, _⟩ => rfl
  | ⟨2, _⟩ => exact (congrArg (· + k.val) (Nat.zero_add 0)).trans (Nat.zero_add _)

section
variable (q : IVec S8x8x128 32) (c : Fin 8 → Fin 8 → Fin 128 → Fin 1024) (hq : ∀ m b t, q (ix3 m b t) = BitVec.ofNat 32 (c m b t).val)
include hq

theorem start_apply (m b : Fin 8) (t : Fin 128) : start q (ix4 m b t (0 : Fin 1)) = BitVec.ofNat 32 (c m b t).val := by
  unfold start
  rw [broadcastInDim_apply _ bcast_S8x8x128_S8x8x128x1_0_1_2 _ _ (ix3 m b t) (fun ax => by
    match ax with
    | ⟨0, _⟩ => rfl
    | ⟨1, _⟩ => rfl
    | ⟨2, _⟩ => rfl)]
  show Scalar.select (IntOp.cmpi .slt (q (ix3 m b t)) (broadcastInDim S8x8x128 _ _ _ _)) _ (q (ix3 m b t)) = _
  rw [broadcastInDim_scalar_apply, hq]
  have h : ¬ (BitVec.ofNat 32 (c m b t).val).toInt < 0 := by
    rw [toInt_small _ (c m b t).isLt]; simp
  simp [Scalar.select, IntOp.cmpi, BitVec.slt, constantI, h]

theorem picked_apply (e : FVec Ideal S8x1024x32 .f32) (m b : Fin 8) (t : Fin 128) (k : Fin 32) :
    picked e (start q) (ix4 m b t k) = e (ix3 m (c m b t) k) := by
  unfold picked
  rw [select_apply, gather_rows,
    broadcastInDim_apply _ bcast_S8x8x128_S8x8x128x32_0_1_2 _ _ (ix3 m b t) (fun ax => by
      match ax with
      | ⟨0, _⟩ => rfl
      | ⟨1, _⟩ => rfl
      | ⟨2, _⟩ => rfl),
    Host.reduce_andi_one _ _ _ _ _ rfl (fun i => ?_)]
  · show e _ = _
    refine congrArg e (congrArg (fun j => ix3 m j k) (Fin.ext ?_))
    show min (start q (ix4 m b t (0 : Fin 1))).toInt.toNat 1023 = (c m b t).val
    rw [start_apply q c hq, toInt_small _ (c m b t).isLt]
    have := (c m b t).isLt
    omega
  · obtain ⟨m', b', t', rfl⟩ : ∃ m' b' t', i = ix4 m' b' t' (0 : Fin 1) := ⟨i 0, i 1, i 2, by
      funext ax
      match ax with
      | ⟨0, _⟩ => rfl
      | ⟨1, _⟩ => rfl
      | ⟨2, _⟩ => rfl
      | ⟨3, _⟩ => exact Subsingleton.elim (α := Fin 1) _ _⟩
    show IntOp.andi (IntOp.cmpi .sge (start q _) (broadcastInDim S8x8x128x1 _ _ _ _)) (IntOp.cmpi .sle (start q _) (broadcastInDim S8x8x128x1 _ _ _ _)) = 1#1
    rw [start_apply q c hq, broadcastInDim_scalar_apply,
      broadcastInDim_apply _ bcast_S1x1x1x1_S8x8x128x1_0_1_2_3 _ _ (ix4 (0 : Fin 1) (0 : Fin 1) (0 : Fin 1) (0 : Fin 1)) (fun ax => by
        match ax with
        | ⟨0, _⟩ => rfl
        | ⟨1, _⟩ => rfl
        | ⟨2, _⟩ => rfl
        | ⟨3, _⟩ => rfl),
      broadcastInDim_apply _ bcast_S1_S1x1x1x1_3 _ _ (ix1 (0 : Fin 1)) (fun ax => by
        match ax with
        | ⟨0, _⟩ => rfl)]
    have h1 : (0#32 : BitVec 32).toInt ≤ (BitVec.ofNat 32 (c m' b' t').val).toInt := by
      rw [toInt_small _ (c m' b' t').isLt]; simp
    have h2 : (BitVec.ofNat 32 (c m' b' t').val).toInt ≤ (1023#32 : BitVec 32).toInt := by
      rw [toInt_small _ (c m' b' t').isLt]
      have := (c m' b' t').isLt
      show _ ≤ (1023 : Int)
      omega
    simp only [IntOp.cmpi, BitVec.sle, constantI, h1, h2, decide_true]
    rfl

end

/-! ### The means -/

theorem sum_part (x : FVec Ideal S8x8x128x32 .f32) (m : Fin 8) :
    Host.reduceAdd x (constant S_ .f32 0x00000000#32) reducesTo_S8x8x128x32_S8_d1_2_3 h_S_ (ix1 m)
      = ∑ b : Fin 8, ∑ t : Fin 128, ∑ k : Fin 32, x (ix4 m b t k) := by
  rw [hostReduceAdd_apply, first_zero]
  unfold Ideal.hostReduceAdd
  rw [zero_add]
  refine Eq.trans (b := ∑ p : Fin 8 × Fin 128 × Fin 32, x (ix4 m p.1 p.2.1 p.2.2)) ?_ ?_
  · refine Finset.sum_nbij' (fun i => (i 1, i 2, i 3)) (fun p => ix4 m p.1 p.2.1 p.2.2) (fun _ _ => Finset.mem_univ _) (fun p _ => ?_)
      (fun i hi => ?_) (fun _ _ => rfl) (fun i hi => ?_)
    · refine Finset.mem_filter.mpr ⟨Finset.mem_univ _, ?_⟩
      funext ax
      match ax with
      | ⟨0, _⟩ => rfl
    all_goals
      have hm : i 0 = m := Fin.ext (congrArg Fin.val (congrFun (Finset.mem_filter.mp hi).2 0) : _)
      have e : ix4 m (i 1) (i 2) (i 3) = i := by
        rw [← hm]
        funext ax
        match ax with
        | ⟨0, _⟩ => rfl
        | ⟨1, _⟩ => rfl
        | ⟨2, _⟩ => rfl
        | ⟨3, _⟩ => rfl
    · exact e
    · exact (congrArg x e).symm
  · rw [Fintype.sum_prod_type]
    exact Finset.sum_congr rfl fun b _ => Fintype.sum_prod_type _

theorem meanOf_meanSq (p z : FVec Ideal S8x8x128x32 .f32) (i : S_.Idx) :
    meanOf (meanSq p z) i = Ideal.div (∑ m : Fin 8, ∑ b : Fin 8, ∑ t : Fin 128, ∑ k : Fin 32,
      (p (ix4 m b t k) - z (ix4 m b t k)) * (p (ix4 m b t k) - z (ix4 m b t k))) (Ideal.ofBits .f32 0x48800000#32) := by
  rw [← Row.mean_of_means]
  unfold meanOf
  show Ideal.div (Host.reduceAdd (meanSq p z) _ _ _ i) (Ideal.ofBits .f32 0x41000000#32) = _
  rw [hostReduceAdd_apply, first_zero, Ideal.hostReduceAdd_total reducesTo_S8_S_d0 (fun b => b.elim0), zero_add]
  refine congrArg (Ideal.div · _) ?_
  refine Finset.sum_nbij' (fun j => j 0) (fun m => ix1 m) (fun _ _ => Finset.mem_univ _) (fun _ _ => Finset.mem_univ _)
    (fun j _ => (eq_ix1 j).symm) (fun _ _ => rfl) (fun j _ => ?_)
  obtain ⟨m, rfl⟩ : ∃ m, j = ix1 m := ⟨_, eq_ix1 j⟩
  unfold meanSq
  show Ideal.div (Host.reduceAdd (mulf (subf p z) (subf p z)) (constant S_ .f32 0x00000000#32) reducesTo_S8x8x128x32_S8_d1_2_3 h_S_ (ix1 m))
    (broadcastInDim S8 ![] bcast_S_S8 (constant S_ .f32 0x47000000#32 : FVec Ideal S_ .f32) (ix1 m)) = _
  rw [sum_part, broadcastInDim_scalar_apply]
  rfl

end Cert.ReferenceIdeal.Stages
-- ==== Proof.RefSpec.lean ====
/- The reference's results are the specification of its arguments; the first one where the input and the down projections are real. -/
module

public import proofs.«01_k».proof.Proof.RefStages
public import proofs.«01_k».proof.Proof.RefQuant

@[expose] public section

noncomputable section

namespace Cert.ReferenceIdeal.Stages

open Cert.ReferenceIdeal Cert.ReferenceIdeal.Gen Idealize.ShloMosaic Idealize.ShloMosaic.TcCoe Idealize.SL.Sem Idealize.ShloMosaic.StableHlo
  Idealize.ShloMosaic.ValueIdx
open scoped BigOperators

/-- Every entry is a real number. -/
def Finite {ι : Type} (x : ι → EReal) : Prop := ∀ i, ∃ r : ℝ, x i = r

/-- Rows of real inputs and projections are real. -/
theorem row_real {x : FVec Ideal S8x8192x128 .f32} {d : FVec Ideal S8x32x1024 .f32} (hx : Finite x) (hd : Finite d)
    (m b : Fin 8) (t : Fin 128) (k : Fin 32) : ∃ r : ℝ, Spec.row x d m b t k = r := by
  unfold Spec.row
  refine Finset.sum_induction _ (fun v : EReal => ∃ r : ℝ, v = r) ?_ ⟨0, rfl⟩ fun j _ => ?_
  · rintro _ _ ⟨r, rfl⟩ ⟨s, rfl⟩
    exact ⟨r + s, (EReal.coe_add r s).symm⟩
  · obtain ⟨r, hr⟩ := hx (ix3 b ⟨j.val % 16 * 512 + (4 * t.val + m.val / 2), by omega⟩ ⟨64 * (m.val % 2) + j.val / 16, by omega⟩)
    obtain ⟨s, hs⟩ := hd (ix3 m k j)
    exact ⟨r * s, by rw [hr, hs, EReal.coe_mul]⟩

variable (V : Valuation τ sig (Elt Ideal)) (x : FVec Ideal S8x8192x128 .f32) (d : FVec Ideal S8x32x1024 .f32)
  (e : FVec Ideal S8x1024x32 .f32) (h0 : (V (Proc.devRef .tc main_arg0) : FVec Ideal S8x8192x128 .f32) = x)
  (h1 : (V (Proc.devRef .tc main_arg1) : FVec Ideal S8x32x1024 .f32) = d)
  (h3 : (V (Proc.devRef .tc main_arg3) : FVec Ideal S8x1024x32 .f32) = e)

include h0 h1 in
theorem zOf_apply (m b : Fin 8) (t : Fin 128) (k : Fin 32) : zOf V (ix4 m b t k) = Spec.row x d m b t k := by
  subst h0 h1
  exact down_apply _ _ m b t k

include h3 in
theorem eOf_apply (m : Fin 8) (j : Fin 1024) (k : Fin 32) : eOf V (ix3 m j k) = Row.unit (Spec.book e m j) k := by
  subst h3
  exact unitBook_apply _ m j k

include h0 h1 h3

theorem kOf_apply (m b : Fin 8) (t : Fin 128) : kOf V (ix3 m b t) = Spec.code x d e m b t := by
  unfold kOf Spec.code Row.code
  rw [codes_apply]
  refine congrArg (fun g : Fin 1024 → EReal => BitVec.ofNat 32 (Row.first g).val) (funext fun j => ?_)
  rw [dist_apply]
  refine congr (congrArg Row.dist (funext fun k => ?_)) (funext fun k => eOf_apply V e h3 m j k)
  show unitRows (zOf V) (ix4 m b t k) = _
  rw [unitRows_apply]
  exact congrArg (Row.unit · k) (funext fun k => zOf_apply V x d h0 h1 m b t k)

theorem pOf_apply (m b : Fin 8) (t : Fin 128) (k : Fin 32) :
    pOf V (ix4 m b t k) = Row.quant (Spec.row x d m b t) (Spec.book e m) k := by
  unfold pOf
  rw [picked_apply (kOf V) (fun m b t => Row.code (Spec.row x d m b t) (Spec.book e m)) (fun m b t => kOf_apply V x d e h0 h1 h3 m b t)]
  exact eOf_apply V e h3 m _ k

/-- The first result. -/
theorem frames_apply (hx : Finite x) (hd : Finite d) (w u : FVec Ideal S8x1024x32 .f32) (h2 : w = u) (b : Fin 8) (n : Fin 8192) (y : Fin 128) :
    up w (straight (pOf V) (zOf V)) (ix3 b n y) = Spec.out x d u e b ⟨n.val / 512, by omega⟩ ⟨n.val % 512, by omega⟩ y := by
  subst h2
  rw [up_apply]
  unfold Spec.out
  refine Finset.sum_congr rfl fun k _ => congrArg (w _ * ·) ?_
  show zOf V (ix4 _ b _ k) + (pOf V (ix4 _ b _ k) - zOf V (ix4 _ b _ k)) = _
  rw [zOf_apply V x d h0 h1, pOf_apply V x d e h0 h1 h3]
  obtain ⟨r, hr⟩ := row_real hx hd (Spec.quantiser ⟨n.val % 512, by omega⟩ y) b (⟨n.val % 512 / 4, by omega⟩ : Fin 128) k
  exact Row.straight _ (by rw [hr]; exact EReal.coe_ne_bot r) (by rw [hr]; exact EReal.coe_ne_top r)

/-- The second result. -/
theorem codesOut_apply (b q : Fin 8) (t : Fin 128) : codesOut (kOf V) (ix3 b q t) = Spec.code x d e q b t := by
  unfold codesOut
  rw [transpose_apply [1, 0, 2] _ transposes_S8x8x128_S8x8x128_1_0_2 _ (ix3 q b t) (fun ax => by
    match ax with
    | ⟨0, _⟩ => rfl
    | ⟨1, _⟩ => rfl
    | ⟨2, _⟩ => rfl)]
  exact kOf_apply V x d e h0 h1 h3 q b t

/-- The third and the fourth result. -/
theorem loss_apply (i : S_.Idx) : meanOf (meanSq (pOf V) (zOf V)) i = Spec.loss x d e := by
  rw [meanOf_meanSq]
  unfold Spec.loss Spec.errSum Row.err
  refine congrArg (fun s => Ideal.div s (Ideal.ofBits .f32 0x48800000#32)) ?_
  refine Finset.sum_congr rfl fun m _ => Finset.sum_congr rfl fun b _ => Finset.sum_congr rfl fun t _ => Finset.sum_congr rfl fun k _ => ?_
  rw [zOf_apply V x d h0 h1, pOf_apply V x d e h0 h1 h3]

end Cert.ReferenceIdeal.Stages
-- ==== Proof.Finite.lean ====
/- The precondition: the input and the down projections are real. -/
module

public import proofs.«01_k».proof.Defs
public import proofs.«01_k».proof.Proof.RefSpec
public import Idealize.ShloMosaic.Lib.ReduceAll

@[expose] public section

noncomputable section

namespace Cert.Pre_finite_z

open Idealize.ShloMosaic Idealize.ShloMosaic.ValueIdx

theorem facts : Cert.Pre_finite_z.Facts where
  bcast_S_S8x8192x128 := by decide
  reducesTo_S8x8192x128_S_d0_1_2 := by decide
  h_S_ := by decide
  bcast_S_S8x32x1024 := by decide
  reducesTo_S8x32x1024_S_d0_1_2 := by decide

/-- A value whose magnitude is below infinity is real. -/
theorem real_of_abs (v : EReal) (h : Ideal.cmp .olt (max v (-v)) (Ideal.ofBits .f32 0x7F800000#32) = 1#1) : ∃ r : ℝ, v = r := by
  have ht : Ideal.ofBits .f32 0x7F800000#32 = ⊤ := by simp [Ideal.ofBits, Ideal.ieee]
  rw [ht] at h
  induction v with
  | bot => simp [Ideal.cmp] at h
  | top => simp [Ideal.cmp] at h
  | coe r => exact ⟨r, rfl⟩

/-- An `and` over all the magnitudes' comparisons with infinity. -/
theorem finite_of_all {s : Shape} {axes : List (Fin s.rank)} (x : FVec Ideal s .f32) (hb : S_.BroadcastsInDim s ![]) (h : s.ReducesTo axes S_)
    (hu : 0 < S_.numel) (i : S_.Idx) (e : Host.reduce IntOp.andi (cmpf .olt (Host.absf x) (broadcastInDim s ![] hb (constant S_ .f32 0x7F800000#32)))
      (constantI S_ 1 1#1) h hu i = 1#1) : Cert.ReferenceIdeal.Stages.Finite x := fun k => by
  haveI : Subsingleton S_.Idx := ⟨fun a b => funext fun c => c.elim0⟩
  have hk := Host.reduce_andi_all _ _ h hu i e k
  refine real_of_abs (x k) ?_
  have hk' : FloatOps.cmpf .olt (Host.absf x k) (broadcastInDim s ![] hb (constant S_ .f32 0x7F800000#32 : FVec Ideal S_ .f32) k) = 1#1 := hk
  rw [broadcastInDim_scalar_apply] at hk'
  exact hk'

/-- Both bits of an `and` that is one everywhere. -/
theorem both (a b : IVec S_ 1) (h : andi a b = fun _ => 1#1) : (∀ i, a i = 1#1) ∧ ∀ i, b i = 1#1 :=
  ⟨fun i => (IntOp.andi_eq_one.1 (congrFun h i)).1, fun i => (IntOp.andi_eq_one.1 (congrFun h i)).2⟩

theorem fn_finite [Cert.Pre_finite_z.Facts] (x : FVec Ideal S8x8192x128 .f32) (d : FVec Ideal S8x32x1024 .f32) (u e : FVec Ideal S8x1024x32 .f32)
    (h : fn (F := Ideal) x d u e = fun _ => 1#1) : Cert.ReferenceIdeal.Stages.Finite x ∧ Cert.ReferenceIdeal.Stages.Finite d := by
  unfold fn at h
  obtain ⟨h1, h2⟩ := both _ _ h
  exact ⟨finite_of_all x _ _ _ ix0 (h1 ix0), finite_of_all d _ _ _ ix0 (h2 ix0)⟩

end Cert.Pre_finite_z
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.KernelValue
public import proofs.«01_k».proof.Proof.RefSpec
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic hiding ix1 ix2 ix3 ix4
open Idealize.ShloMosaic.TcCoe Idealize.SL.Sem Idealize.ShloMosaic.ValueIdx

/-- The reference runs, ends with its arguments unchanged and every counter at zero: it declares no semaphore. -/
theorem frame_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => ⟨(h c).2.2.2.2.1, (h c).2.2.2.2.2.1, (h c).2.2.2.2.2.2.1, (h c).2.2.2.2.2.2.2⟩,
    sem_eq_zero_of_no_sems rfl r.2⟩) (ReferenceIdeal.Stages.run m g)

/-- The four results agree. -/
theorem agree : algebraic_KernelIdeal_ReferenceIdeal_pre_finite_z (hPre_finite_z := Pre_finite_z.facts) := by
  haveI := Pre_finite_z.facts
  intro m g m' g' hpre hargs
  refine ⟨_, _, _, _, KernelIdeal.Value.run m g, (θ_run ReferenceIdeal.defs _ _).mono (fun r h c => ?_) (ReferenceIdeal.Stages.run m' g')⟩
  obtain ⟨r0, r1, r2, r3, hrest⟩ := h c
  obtain ⟨a0, a1, a2, a3⟩ := hargs c
  obtain ⟨hx, hd⟩ := Pre_finite_z.fn_finite _ _ _ _ (hpre c)
  refine ⟨r0.trans ?_, r1.trans ?_, r2.trans ?_, r3.trans ?_, hrest⟩
  · funext i
    obtain ⟨b, n, y, rfl⟩ : ∃ b n y, i = ix3 b n y := ⟨_, _, _, ValueIdx.eq_ix3 i⟩
    exact (ReferenceIdeal.Stages.frames_apply _ _ _ _ a0 a1 a3 hx hd _ _ a2 b n y).trans (KernelIdeal.Arrays.result_frames m c b n y).symm
  · funext i
    obtain ⟨b, q, t, rfl⟩ : ∃ b q t, i = ix3 b q t := ⟨_, _, _, ValueIdx.eq_ix3 i⟩
    exact (ReferenceIdeal.Stages.codesOut_apply _ _ _ _ a0 a1 a3 b q t).trans (KernelIdeal.Arrays.result_codes m c b q t).symm
  · funext i
    exact (ReferenceIdeal.Stages.loss_apply _ _ _ _ a0 a1 a3 i).trans (KernelIdeal.Arrays.result_loss m c i).symm
  · funext i
    exact (ReferenceIdeal.Stages.loss_apply _ _ _ _ a0 a1 a3 i).trans (KernelIdeal.Arrays.result_loss m c i).symm

theorem claim : Cert.Claim := ⟨Cert.Kernel.Gen.facts, Cert.KernelIdeal.Gen.facts, Cert.ReferenceIdeal.Gen.facts, Cert.Pre_finite_z.facts,
  fun m g _ => Cert.Kernel.Gen.frame m g, fun m g _ => Cert.KernelIdeal.Gen.frame m g, fun m g _ => Cert.KernelIdeal.Gen.frame m g,
  fun m g _ => frame_reference m g, fun m g _ => frame_reference m g, trivial, agree⟩

end Cert.Proof

end
